-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_logits [hPre_finite_logits : Cert.Pre_finite_logits.Facts] (m : (ℓ : Loc Cert.KernelIdeal.nD Cert.KernelIdeal.τ Cert.KernelIdeal.sig) → Buf (Elt Ideal) ℓ) : Prop :=
  ∀ c : Dev Cert.KernelIdeal.nD,
    (Cert.Pre_finite_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_logits [hPre_finite_logits : Cert.Pre_finite_logits.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_logits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_logits [hKernelIdeal : Cert.KernelIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_logits m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_logits [hReferenceIdeal : Cert.ReferenceIdeal.Facts] [hPre_finite_logits : Cert.Pre_finite_logits.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_logits m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite_logits [hKernelIdeal : Cert.KernelIdeal.Facts] [hReferenceIdeal : Cert.ReferenceIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_logits m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_logits : Cert.Pre_finite_logits.Facts),
    quiescent_Kernel (hKernel := hKernel)
    ∧ quiescent_KernelIdeal (hKernelIdeal := hKernelIdeal)
    ∧ quiescent_KernelIdeal_pre_finite_logits (hKernelIdeal := hKernelIdeal) (hPre_finite_logits := hPre_finite_logits)
    ∧ quiescent_ReferenceIdeal (hReferenceIdeal := hReferenceIdeal)
    ∧ quiescent_ReferenceIdeal_pre_finite_logits (hReferenceIdeal := hReferenceIdeal) (hPre_finite_logits := hPre_finite_logits)
    ∧ preserves_Kernel_KernelIdeal
    ∧ algebraic_KernelIdeal_ReferenceIdeal_pre_finite_logits (hKernelIdeal := hKernelIdeal) (hReferenceIdeal := hReferenceIdeal) (hPre_finite_logits := hPre_finite_logits)
-- ==== Pre_finite_logits.lean ====
abbrev S32x65536x8 : Shape := ⟨3, ![32, 65536, 8]⟩
abbrev S32x65536x1 : Shape := ⟨3, ![32, 65536, 1]⟩
abbrev S32x65536 : Shape := ⟨2, ![32, 65536]⟩
abbrev S_ : Shape := ⟨0, ![]⟩

class Facts : Prop where
  bcast_S_S32x65536x1 : S_.BroadcastsInDim S32x65536x1 (![] : Fin 0 → Fin S32x65536x1.rank)
  reducesTo_S32x65536x1_S_d0_1_2 : S32x65536x1.ReducesTo [0, 1, 2] S_
  h_S_ : 0 < S_.numel

variable [Facts]

def fn {F : FTy → Type} [FloatOps F] (main_arg0 : FVec F S32x65536x8 .f32) (main_arg1 : FVec F S32x65536x8 .f32) (main_arg2 : FVec F S32x65536x1 .f32) (main_arg3 : IVec S32x65536 32) : IVec S_ 1 :=
  let main_v0 : FVec F S32x65536x1 .f32 := Host.absf main_arg2
  let main_cst : FVec F S_ .f32 := constant S_ .f32 0x7F800000#32
  let main_v1 : FVec F S32x65536x1 .f32 := broadcastInDim S32x65536x1 ![] bcast_S_S32x65536x1 main_cst
  let main_v2 : IVec S32x65536x1 1 := cmpf .olt main_v0 main_v1
  let main_c : IVec S_ 1 := constantI S_ 1 1#1
  let main_v3 : IVec S_ 1 := (fun x v => Host.reduce IntOp.andi x v reducesTo_S32x65536x1_S_d0_1_2 h_S_) main_v2 main_c
  main_v3
-- ==== Kernel.lean ====
abbrev S32x65536x8 : Shape := ⟨3, ![32, 65536, 8]⟩
abbrev S32x65536x1 : Shape := ⟨3, ![32, 65536, 1]⟩
abbrev S32x65536 : Shape := ⟨2, ![32, 65536]⟩
abbrev S16777216 : Shape := ⟨1, ![16777216]⟩
abbrev S2097152 : Shape := ⟨1, ![2097152]⟩
abbrev S32x32 : Shape := ⟨2, ![32, 32]⟩
abbrev S32768 : Shape := ⟨1, ![32768]⟩
abbrev S4096 : Shape := ⟨1, ![4096]⟩
abbrev S32 : Shape := ⟨1, ![32]⟩
abbrev S16 : Shape := ⟨1, ![16]⟩
abbrev S_ : Shape := ⟨0, ![]⟩
abbrev S1 : Shape := ⟨1, ![1]⟩
abbrev S1x32 : Shape := ⟨2, ![1, 32]⟩
abbrev S32x16 : Shape := ⟨2, ![32, 16]⟩

abbrev nBuf : Table → Nat
  | .hbm => 17
  | .local .scVector .vmem => 4
  | _ => 0

abbrev bufTy : (tb : Table) → Fin (nBuf tb) → BufTy
  | .hbm, ⟨0, _⟩ => ⟨S32x65536x8, .f32⟩
  | .hbm, ⟨1, _⟩ => ⟨S32x65536x8, .f32⟩
  | .hbm, ⟨2, _⟩ => ⟨S32x65536x1, .f32⟩
  | .hbm, ⟨3, _⟩ => ⟨S32x65536, .i32⟩
  | .hbm, ⟨4, _⟩ => ⟨S16777216, .f32⟩
  | .hbm, ⟨5, _⟩ => ⟨S16777216, .f32⟩
  | .hbm, ⟨6, _⟩ => ⟨S2097152, .i32⟩
  | .hbm, ⟨7, _⟩ => ⟨S32x32, .f32⟩
  | .hbm, ⟨8, _⟩ => ⟨S32x16, .f32⟩
  | .hbm, ⟨9, _⟩ => ⟨S_, .f32⟩
  | .hbm, ⟨10, _⟩ => ⟨S_, .f32⟩
  | .hbm, ⟨11, _⟩ => ⟨S32x16, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .local .scVector .vmem, ⟨0, _⟩ => ⟨S32768, .f32⟩
  | .local .scVector .vmem, ⟨1, _⟩ => ⟨S32768, .f32⟩
  | .local .scVector .vmem, ⟨2, _⟩ => ⟨S4096, .i32⟩
  | .local .scVector .vmem, ⟨3, _⟩ => ⟨S32, .f32⟩
  | _, _ => ⟨S32x65536x8, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v0_scv : Ref sig .scVector := ⟨.hbm, 4, rfl⟩
abbrev main_v1_scv : Ref sig .scVector := ⟨.hbm, 5, rfl⟩
abbrev main_v2_scv : Ref sig .scVector := ⟨.hbm, 6, rfl⟩
abbrev main_v3_scv : Ref sig .scVector := ⟨.hbm, 7, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32 : BitVec 32 := 0#32
  let c16_i32 : BitVec 32 := 16#32
  let v7 : BitVec 32 := Scalar.addi c0_i32 c16_i32
  let c1_i32 : BitVec 32 := 1#32
  ⟨c0_i32, v7, c1_i32⟩
def k0_off1 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32 : BitVec 32 := 65536#32
  let v2 : BitVec 32 := Scalar.muli v1 c65536_i32
  let c0_i32 : BitVec 32 := 0#32
  let c1_i32 : BitVec 32 := 1#32
  let arg10 : BitVec 32 := Scf.iv c0_i32 c1_i32 k0_t1
  let c4096_i32 : BitVec 32 := 4096#32
  let v15 : BitVec 32 := Scalar.muli arg10 c4096_i32
  let v16 : BitVec 32 := Scalar.addi v2 v15
  let c8_i32_1 : BitVec 32 := 8#32
  let v17 : BitVec 32 := Scalar.muli v16 c8_i32_1
  ![v17.toNat]
def k0_off2 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32 : BitVec 32 := 65536#32
  let v2 : BitVec 32 := Scalar.muli v1 c65536_i32
  let c0_i32 : BitVec 32 := 0#32
  let c1_i32 : BitVec 32 := 1#32
  let arg10 : BitVec 32 := Scf.iv c0_i32 c1_i32 k0_t1
  let c4096_i32 : BitVec 32 := 4096#32
  let v15 : BitVec 32 := Scalar.muli arg10 c4096_i32
  let v16 : BitVec 32 := Scalar.addi v2 v15
  ![v16.toNat]
@[reducible] def k0_t2_loop : Scf.Loop 32 :=
  let c0_i32_3 : BitVec 32 := 0#32
  let c256_i32 : BitVec 32 := 256#32
  let v19 : BitVec 32 := Scalar.addi c0_i32_3 c256_i32
  let c1_i32_4 : BitVec 32 := 1#32
  ⟨c0_i32_3, v19, c1_i32_4⟩
def k0_off3 (k0_t2 : Fin k0_t2_loop.trips) : Fin 1 → Nat :=
  let c0_i32_3 : BitVec 32 := 0#32
  let c1_i32_4 : BitVec 32 := 1#32
  let arg13 : BitVec 32 := Scf.iv c0_i32_3 c1_i32_4 k0_t2
  let c16_i32_6 : BitVec 32 := 16#32
  let v21 : BitVec 32 := Scalar.muli arg13 c16_i32_6
  let v22 : Index := Scalar.indexCast v21
  ![v22.toNat]
def k0_off4 (k0_t2 : Fin k0_t2_loop.trips) (c0_i32_10 : BitVec 32) : Fin 1 → Nat :=
  let c0_i32_3 : BitVec 32 := 0#32
  let c1_i32_4 : BitVec 32 := 1#32
  let arg13 : BitVec 32 := Scf.iv c0_i32_3 c1_i32_4 k0_t2
  let c128_i32 : BitVec 32 := 128#32
  let v31 : BitVec 32 := Scalar.muli arg13 c128_i32
  let v32 : BitVec 32 := Scalar.addi v31 c0_i32_10
  let v33 : Index := Scalar.indexCast v32
  ![v33.toNat]
def k0_off5 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_1_r3 : BitVec 32 := 0#32
  ![v1.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S32x65536x8 : Shape := ⟨3, ![32, 65536, 8]⟩
abbrev S32x65536x1 : Shape := ⟨3, ![32, 65536, 1]⟩
abbrev S32x65536 : Shape := ⟨2, ![32, 65536]⟩
abbrev S_ : Shape := ⟨0, ![]⟩
abbrev S2097152x1 : Shape := ⟨2, ![2097152, 1]⟩
abbrev S2097152 : Shape := ⟨1, ![2097152]⟩
abbrev S2097152x1x1 : Shape := ⟨3, ![2097152, 1, 1]⟩
abbrev S1 : Shape := ⟨1, ![1]⟩
abbrev S1x1x1 : Shape := ⟨3, ![1, 1, 1]⟩
abbrev S32 : Shape := ⟨1, ![32]⟩
abbrev S32x1 : Shape := ⟨2, ![32, 1]⟩

abbrev nBuf : Space → Nat
  | .hbm => 169
  | .vmem => 0
  | .smem => 0
  | _ => 0

abbrev hbmTy0_0 (i : Nat) : BufTy := match i % 128 with
  | 0 => ⟨S32x65536x8, .f32⟩
  | 1 => ⟨S32x65536x8, .f32⟩
  | 2 => ⟨S32x65536x1, .f32⟩
  | 3 => ⟨S32x65536, .i32⟩
  | 4 => ⟨S_, .i32⟩
  | 5 => ⟨S_, .i32⟩
  | 6 => ⟨S_, .i32⟩
  | 7 => ⟨S32x65536, .i32⟩
  | 8 => ⟨S32x65536, .i32⟩
  | 9 => ⟨S_, .i32⟩
  | 10 => ⟨S32x65536, .i32⟩
  | 11 => ⟨S32x65536, .i32⟩
  | 12 => ⟨S_, .i32⟩
  | 13 => ⟨S32x65536, .i32⟩
  | 14 => ⟨S32x65536, .i1⟩
  | 15 => ⟨S32x65536x8, .f32⟩
  | 16 => ⟨S32x65536x8, .f32⟩
  | 17 => ⟨S_, .f32⟩
  | 18 => ⟨S32x65536x8, .f32⟩
  | 19 => ⟨S32x65536x8, .i1⟩
  | 20 => ⟨S_, .f32⟩
  | 21 => ⟨S32x65536x8, .f32⟩
  | 22 => ⟨S32x65536x8, .f32⟩
  | 23 => ⟨S32x65536x8, .f32⟩
  | 24 => ⟨S_, .f32⟩
  | 25 => ⟨S32x65536x8, .f32⟩
  | 26 => ⟨S32x65536x8, .f32⟩
  | 27 => ⟨S32x65536x8, .f32⟩
  | 28 => ⟨S32x65536x1, .i1⟩
  | 29 => ⟨S32x65536x1, .f32⟩
  | 30 => ⟨S32x65536x8, .f32⟩
  | 31 => ⟨S32x65536x8, .f32⟩
  | 32 => ⟨S_, .f32⟩
  | 33 => ⟨S_, .f32⟩
  | 34 => ⟨S2097152x1, .f32⟩
  | 35 => ⟨S_, .f32⟩
  | 36 => ⟨S_, .f32⟩
  | 37 => ⟨S2097152x1, .f32⟩
  | 38 => ⟨S2097152x1, .f32⟩
  | 39 => ⟨S2097152x1, .f32⟩
  | 40 => ⟨S_, .f32⟩
  | 41 => ⟨S2097152, .f32⟩
  | 42 => ⟨S2097152x1, .f32⟩
  | 43 => ⟨S2097152x1, .f32⟩
  | 44 => ⟨S2097152x1, .f32⟩
  | 45 => ⟨S2097152x1, .f32⟩
  | 46 => ⟨S2097152x1, .i32⟩
  | 47 => ⟨S_, .i32⟩
  | 48 => ⟨S_, .i32⟩
  | 49 => ⟨S_, .i32⟩
  | 50 => ⟨S2097152x1, .i32⟩
  | 51 => ⟨S2097152x1, .i32⟩
  | 52 => ⟨S_, .i32⟩
  | 53 => ⟨S2097152x1, .i32⟩
  | 54 => ⟨S2097152x1, .i32⟩
  | 55 => ⟨S_, .i32⟩
  | 56 => ⟨S2097152x1, .i32⟩
  | 57 => ⟨S2097152x1, .i1⟩
  | 58 => ⟨S_, .i32⟩
  | 59 => ⟨S2097152x1, .i32⟩
  | 60 => ⟨S2097152x1, .i32⟩
  | 61 => ⟨S2097152x1, .i32⟩
  | 62 => ⟨S2097152x1x1, .i32⟩
  | 63 => ⟨S1, .i32⟩
  | 64 => ⟨S_, .i32⟩
  | 65 => ⟨S2097152x1x1, .i32⟩
  | 66 => ⟨S2097152x1x1, .i1⟩
  | 67 => ⟨S1x1x1, .i32⟩
  | 68 => ⟨S2097152x1x1, .i32⟩
  | 69 => ⟨S2097152x1x1, .i1⟩
  | 70 => ⟨S2097152x1x1, .i1⟩
  | 71 => ⟨S_, .i1⟩
  | 72 => ⟨S2097152x1, .i1⟩
  | 73 => ⟨S2097152x1, .f32⟩
  | 74 => ⟨S_, .f32⟩
  | 75 => ⟨S2097152x1, .f32⟩
  | 76 => ⟨S2097152x1, .f32⟩
  | 77 => ⟨S2097152x1, .f32⟩
  | 78 => ⟨S32x65536, .f32⟩
  | 79 => ⟨S_, .f32⟩
  | 80 => ⟨S_, .f32⟩
  | 81 => ⟨S32x65536, .f32⟩
  | 82 => ⟨S32x65536, .f32⟩
  | 83 => ⟨S32x65536, .f32⟩
  | 84 => ⟨S32x65536, .i32⟩
  | 85 => ⟨S32x65536, .f32⟩
  | 86 => ⟨S32x65536, .i32⟩
  | 87 => ⟨S32x65536, .i32⟩
  | 88 => ⟨S32x65536, .i32⟩
  | 89 => ⟨S32x65536, .i32⟩
  | 90 => ⟨S32x65536, .i32⟩
  | 91 => ⟨S_, .i32⟩
  | 92 => ⟨S32, .i32⟩
  | 93 => ⟨S32x1, .i32⟩
  | 94 => ⟨S_, .i32⟩
  | 95 => ⟨S32x1, .i32⟩
  | 96 => ⟨S32x1, .i32⟩
  | 97 => ⟨S_, .i32⟩
  | 98 => ⟨S32x1, .i32⟩
  | 99 => ⟨S32x1, .i32⟩
  | 100 => ⟨S32x65536, .i32⟩
  | 101 => ⟨S32x65536, .i1⟩
  | 102 => ⟨S32x65536, .i1⟩
  | 103 => ⟨S2097152x1, .f32⟩
  | 104 => ⟨S_, .f32⟩
  | 105 => ⟨S2097152, .f32⟩
  | 106 => ⟨S2097152x1, .f32⟩
  | 107 => ⟨S2097152x1, .f32⟩
  | 108 => ⟨S_, .f32⟩
  | 109 => ⟨S2097152x1, .f32⟩
  | 110 => ⟨S2097152x1, .i1⟩
  | 111 => ⟨S_, .f32⟩
  | 112 => ⟨S_, .f32⟩
  | 113 => ⟨S2097152x1, .f32⟩
  | 114 => ⟨S2097152x1, .f32⟩
  | 115 => ⟨S2097152x1, .f32⟩
  | 116 => ⟨S2097152x1, .f32⟩
  | 117 => ⟨S_, .f32⟩
  | 118 => ⟨S2097152, .f32⟩
  | 119 => ⟨S2097152, .f32⟩
  | 120 => ⟨S2097152, .f32⟩
  | 121 => ⟨S2097152, .f32⟩
  | 122 => ⟨S2097152, .i32⟩
  | 123 => ⟨S_, .i32⟩
  | 124 => ⟨S_, .i32⟩
  | 125 => ⟨S_, .i32⟩
  | 126 => ⟨S2097152, .i32⟩
  | 127 => ⟨S2097152, .i32⟩
  | _ => ⟨S32x65536x8, .f32⟩

abbrev hbmTy0_1 (i : Nat) : BufTy := match i % 128 with
  | 0 => ⟨S_, .i32⟩
  | 1 => ⟨S2097152, .i32⟩
  | 2 => ⟨S2097152, .i32⟩
  | 3 => ⟨S2097152x1, .i32⟩
  | 4 => ⟨S_, .i32⟩
  | 5 => ⟨S2097152x1, .i32⟩
  | 6 => ⟨S2097152x1, .i1⟩
  | 7 => ⟨S_, .i32⟩
  | 8 => ⟨S2097152x1, .i32⟩
  | 9 => ⟨S2097152x1, .i32⟩
  | 10 => ⟨S2097152x1, .i32⟩
  | 11 => ⟨S2097152x1x1, .i32⟩
  | 12 => ⟨S1, .i32⟩
  | 13 => ⟨S_, .i32⟩
  | 14 => ⟨S2097152x1x1, .i32⟩
  | 15 => ⟨S2097152x1x1, .i1⟩
  | 16 => ⟨S1x1x1, .i32⟩
  | 17 => ⟨S2097152x1x1, .i32⟩
  | 18 => ⟨S2097152x1x1, .i1⟩
  | 19 => ⟨S2097152x1x1, .i1⟩
  | 20 => ⟨S_, .i1⟩
  | 21 => ⟨S2097152x1, .i1⟩
  | 22 => ⟨S2097152x1, .f32⟩
  | 23 => ⟨S_, .f32⟩
  | 24 => ⟨S2097152x1, .f32⟩
  | 25 => ⟨S2097152x1, .f32⟩
  | 26 => ⟨S2097152, .f32⟩
  | 27 => ⟨S2097152, .f32⟩
  | 28 => ⟨S32x65536, .f32⟩
  | 29 => ⟨S32x65536, .f32⟩
  | 30 => ⟨S32x65536, .f32⟩
  | 31 => ⟨S_, .f32⟩
  | 32 => ⟨S_, .f32⟩
  | 33 => ⟨S32x1, .f32⟩
  | 34 => ⟨S_, .f32⟩
  | 35 => ⟨S_, .f32⟩
  | 36 => ⟨S_, .f32⟩
  | 37 => ⟨S_, .f32⟩
  | 38 => ⟨S_, .f32⟩
  | 39 => ⟨S_, .f32⟩
  | 40 => ⟨S_, .f32⟩
  | _ => ⟨S32x65536x8, .f32⟩

abbrev hbmTy (i : Nat) : BufTy := match i / 128 with
  | 0 => hbmTy0_0 i
  | 1 => hbmTy0_1 i
  | _ => ⟨S32x65536x8, .f32⟩

abbrev bufTy : (tb : Table) → Fin (tcTables nBuf tb) → BufTy
  | .hbm, ⟨i, _⟩ => hbmTy i
  | _, _ => ⟨S32x65536x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v0 : Ref sig .tc := ⟨.hbm, 11, rfl⟩
abbrev main_c_1 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst : Ref sig .tc := ⟨.hbm, 17, rfl⟩
abbrev main_v5 : Ref sig .tc := ⟨.hbm, 18, rfl⟩
abbrev main_v6 : Ref sig .tc := ⟨.hbm, 19, rfl⟩
abbrev main_cst_2 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_3 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_4 : Ref sig .tc := ⟨.hbm, 32, rfl⟩
abbrev main_v17 : Ref sig .tc := ⟨.hbm, 33, rfl⟩
abbrev main_v18 : Ref sig .tc := ⟨.hbm, 34, rfl⟩
abbrev main_cst_5 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_6 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_c_7 : Ref sig .tc := ⟨.hbm, 47, rfl⟩
abbrev main_c_8 : Ref sig .tc := ⟨.hbm, 48, rfl⟩
abbrev main_call2_v0 : Ref sig .tc := ⟨.hbm, 49, rfl⟩
abbrev main_call2_v1 : Ref sig .tc := ⟨.hbm, 50, rfl⟩
abbrev main_call2_v2 : Ref sig .tc := ⟨.hbm, 51, rfl⟩
abbrev main_call2_v3 : Ref sig .tc := ⟨.hbm, 52, rfl⟩
abbrev main_call2_v4 : Ref sig .tc := ⟨.hbm, 53, rfl⟩
abbrev main_v29 : Ref sig .tc := ⟨.hbm, 54, rfl⟩
abbrev main_call3_c : Ref sig .tc := ⟨.hbm, 55, rfl⟩
abbrev main_call3_v0 : Ref sig .tc := ⟨.hbm, 56, rfl⟩
abbrev main_call3_v1 : Ref sig .tc := ⟨.hbm, 57, rfl⟩
abbrev main_call3_c_0 : Ref sig .tc := ⟨.hbm, 58, rfl⟩
abbrev main_call3_v2 : Ref sig .tc := ⟨.hbm, 59, rfl⟩
abbrev main_call3_v3 : Ref sig .tc := ⟨.hbm, 60, rfl⟩
abbrev main_call3_v4 : Ref sig .tc := ⟨.hbm, 61, rfl⟩
abbrev main_call3_v5 : Ref sig .tc := ⟨.hbm, 62, rfl⟩
abbrev main_call3_c_1 : Ref sig .tc := ⟨.hbm, 63, rfl⟩
abbrev main_call3_c_2 : Ref sig .tc := ⟨.hbm, 64, rfl⟩
abbrev main_call3_v6 : Ref sig .tc := ⟨.hbm, 65, rfl⟩
abbrev main_call3_v7 : Ref sig .tc := ⟨.hbm, 66, rfl⟩
abbrev main_call3_v8 : Ref sig .tc := ⟨.hbm, 67, rfl⟩
abbrev main_call3_v9 : Ref sig .tc := ⟨.hbm, 68, rfl⟩
abbrev main_call3_v10 : Ref sig .tc := ⟨.hbm, 69, rfl⟩
abbrev main_call3_v11 : Ref sig .tc := ⟨.hbm, 70, rfl⟩
abbrev main_call3_c_3 : Ref sig .tc := ⟨.hbm, 71, rfl⟩
abbrev main_call3_v12 : Ref sig .tc := ⟨.hbm, 72, rfl⟩
abbrev main_call3_v13 : Ref sig .tc := ⟨.hbm, 73, rfl⟩
abbrev main_call3_cst : Ref sig .tc := ⟨.hbm, 74, rfl⟩
abbrev main_call3_v14 : Ref sig .tc := ⟨.hbm, 75, rfl⟩
abbrev main_v30 : Ref sig .tc := ⟨.hbm, 76, rfl⟩
abbrev main_v31 : Ref sig .tc := ⟨.hbm, 77, rfl⟩
abbrev main_v32 : Ref sig .tc := ⟨.hbm, 78, rfl⟩
abbrev main_cst_9 : Ref sig .tc := ⟨.hbm, 79, rfl⟩
abbrev main_call4_v0 : Ref sig .tc := ⟨.hbm, 80, rfl⟩
abbrev main_call4_v1 : Ref sig .tc := ⟨.hbm, 81, rfl⟩
abbrev main_v33 : Ref sig .tc := ⟨.hbm, 82, rfl⟩
abbrev main_v34 : Ref sig .tc := ⟨.hbm, 83, rfl⟩
abbrev main_call5_v0 : Ref sig .tc := ⟨.hbm, 84, rfl⟩
abbrev main_call5_v1_0 : Ref sig .tc := ⟨.hbm, 85, rfl⟩
abbrev main_v35 : Ref sig .tc := ⟨.hbm, 86, rfl⟩
abbrev main_call6_v0 : Ref sig .tc := ⟨.hbm, 87, rfl⟩
abbrev main_call6_v1_0 : Ref sig .tc := ⟨.hbm, 88, rfl⟩
abbrev main_v36 : Ref sig .tc := ⟨.hbm, 89, rfl⟩
abbrev main_v37 : Ref sig .tc := ⟨.hbm, 90, rfl⟩
abbrev main_c_10 : Ref sig .tc := ⟨.hbm, 91, rfl⟩
abbrev main_v38 : Ref sig .tc := ⟨.hbm, 92, rfl⟩
abbrev main_v39 : Ref sig .tc := ⟨.hbm, 93, rfl⟩
abbrev main_c_11 : Ref sig .tc := ⟨.hbm, 94, rfl⟩
abbrev main_v40 : Ref sig .tc := ⟨.hbm, 95, rfl⟩
abbrev main_v41 : Ref sig .tc := ⟨.hbm, 96, rfl⟩
abbrev main_c_12 : Ref sig .tc := ⟨.hbm, 97, rfl⟩
abbrev main_v42 : Ref sig .tc := ⟨.hbm, 98, rfl⟩
abbrev main_v43 : Ref sig .tc := ⟨.hbm, 99, rfl⟩
abbrev main_v44 : Ref sig .tc := ⟨.hbm, 100, rfl⟩
abbrev main_v45 : Ref sig .tc := ⟨.hbm, 101, rfl⟩
abbrev main_v46 : Ref sig .tc := ⟨.hbm, 102, rfl⟩
abbrev main_v47 : Ref sig .tc := ⟨.hbm, 103, rfl⟩
abbrev main_cst_13 : Ref sig .tc := ⟨.hbm, 104, rfl⟩
abbrev main_v48 : Ref sig .tc := ⟨.hbm, 105, rfl⟩
abbrev main_v49 : Ref sig .tc := ⟨.hbm, 106, rfl⟩
abbrev main_v50 : Ref sig .tc := ⟨.hbm, 107, rfl⟩
abbrev main_cst_14 : Ref sig .tc := ⟨.hbm, 108, rfl⟩
abbrev main_v51 : Ref sig .tc := ⟨.hbm, 109, rfl⟩
abbrev main_v52 : Ref sig .tc := ⟨.hbm, 110, rfl⟩
abbrev main_cst_15 : Ref sig .tc := ⟨.hbm, 111, rfl⟩
abbrev main_call7_v0 : Ref sig .tc := ⟨.hbm, 112, rfl⟩
abbrev main_call7_v1 : Ref sig .tc := ⟨.hbm, 113, rfl⟩
abbrev main_v53 : Ref sig .tc := ⟨.hbm, 114, rfl⟩
abbrev main_v54 : Ref sig .tc := ⟨.hbm, 115, rfl⟩
abbrev main_v55 : Ref sig .tc := ⟨.hbm, 116, rfl⟩
abbrev main_cst_16 : Ref sig .tc := ⟨.hbm, 117, rfl⟩
abbrev main_v56 : Ref sig .tc := ⟨.hbm, 118, rfl⟩
abbrev main_v57 : Ref sig .tc := ⟨.hbm, 119, rfl⟩
abbrev main_v58 : Ref sig .tc := ⟨.hbm, 120, rfl⟩
abbrev main_v59 : Ref sig .tc := ⟨.hbm, 121, rfl⟩
abbrev main_v60 : Ref sig .tc := ⟨.hbm, 122, rfl⟩
abbrev main_c_17 : Ref sig .tc := ⟨.hbm, 123, rfl⟩
abbrev main_c_18 : Ref sig .tc := ⟨.hbm, 124, rfl⟩
abbrev main_call8_v0 : Ref sig .tc := ⟨.hbm, 125, rfl⟩
abbrev main_call8_v1 : Ref sig .tc := ⟨.hbm, 126, rfl⟩
abbrev main_call8_v2 : Ref sig .tc := ⟨.hbm, 127, rfl⟩
abbrev main_call8_v3 : Ref sig .tc := ⟨.hbm, 128, rfl⟩
abbrev main_call8_v4 : Ref sig .tc := ⟨.hbm, 129, rfl⟩
abbrev main_v61 : Ref sig .tc := ⟨.hbm, 130, rfl⟩
abbrev main_v62 : Ref sig .tc := ⟨.hbm, 131, rfl⟩
abbrev main_call9_c : Ref sig .tc := ⟨.hbm, 132, rfl⟩
abbrev main_call9_v0 : Ref sig .tc := ⟨.hbm, 133, rfl⟩
abbrev main_call9_v1 : Ref sig .tc := ⟨.hbm, 134, rfl⟩
abbrev main_call9_c_0 : Ref sig .tc := ⟨.hbm, 135, rfl⟩
abbrev main_call9_v2 : Ref sig .tc := ⟨.hbm, 136, rfl⟩
abbrev main_call9_v3 : Ref sig .tc := ⟨.hbm, 137, rfl⟩
abbrev main_call9_v4 : Ref sig .tc := ⟨.hbm, 138, rfl⟩
abbrev main_call9_v5 : Ref sig .tc := ⟨.hbm, 139, rfl⟩
abbrev main_call9_c_1 : Ref sig .tc := ⟨.hbm, 140, rfl⟩
abbrev main_call9_c_2 : Ref sig .tc := ⟨.hbm, 141, rfl⟩
abbrev main_call9_v6 : Ref sig .tc := ⟨.hbm, 142, rfl⟩
abbrev main_call9_v7 : Ref sig .tc := ⟨.hbm, 143, rfl⟩
abbrev main_call9_v8 : Ref sig .tc := ⟨.hbm, 144, rfl⟩
abbrev main_call9_v9 : Ref sig .tc := ⟨.hbm, 145, rfl⟩
abbrev main_call9_v10 : Ref sig .tc := ⟨.hbm, 146, rfl⟩
abbrev main_call9_v11 : Ref sig .tc := ⟨.hbm, 147, rfl⟩
abbrev main_call9_c_3 : Ref sig .tc := ⟨.hbm, 148, rfl⟩
abbrev main_call9_v12 : Ref sig .tc := ⟨.hbm, 149, rfl⟩
abbrev main_call9_v13 : Ref sig .tc := ⟨.hbm, 150, rfl⟩
abbrev main_call9_cst : Ref sig .tc := ⟨.hbm, 151, rfl⟩
abbrev main_call9_v14 : Ref sig .tc := ⟨.hbm, 152, rfl⟩
abbrev main_v63 : Ref sig .tc := ⟨.hbm, 153, rfl⟩
abbrev main_v64 : Ref sig .tc := ⟨.hbm, 154, rfl⟩
abbrev main_v65 : Ref sig .tc := ⟨.hbm, 155, rfl⟩
abbrev main_v66 : Ref sig .tc := ⟨.hbm, 156, rfl⟩
abbrev main_v67 : Ref sig .tc := ⟨.hbm, 157, rfl⟩
abbrev main_v68 : Ref sig .tc := ⟨.hbm, 158, rfl⟩
abbrev main_cst_19 : Ref sig .tc := ⟨.hbm, 159, rfl⟩
abbrev main_v69 : Ref sig .tc := ⟨.hbm, 160, rfl⟩
abbrev main_v70 : Ref sig .tc := ⟨.hbm, 161, rfl⟩
abbrev main_cst_20 : Ref sig .tc := ⟨.hbm, 162, rfl⟩
abbrev main_v71 : Ref sig .tc := ⟨.hbm, 163, rfl⟩
abbrev main_v72 : Ref sig .tc := ⟨.hbm, 164, rfl⟩
abbrev main_v73 : Ref sig .tc := ⟨.hbm, 165, rfl⟩
abbrev main_cst_21 : Ref sig .tc := ⟨.hbm, 166, rfl⟩
abbrev main_v74 : Ref sig .tc := ⟨.hbm, 167, rfl⟩
abbrev main_v75 : Ref sig .tc := ⟨.hbm, 168, rfl⟩

abbrev nD : Nat := 1
abbrev τ : Topo := Topo.v7x

variable {F : FTy → Type} [FloatOps F]
-- ==== Proof.Fold.lean ====
/-
  The value one subcore accumulates, as a fold over positions counted by naturals. A worker `w` owns 524288 consecutive
  elements of the flat predictions and targets and 65536 consecutive class labels. Its lane `l` adds up the smooth L1
  terms of the elements `w * 524288 + 16 * n + l`, in the order of `n`, and counts the positive labels among
  `w * 65536 + 16 * n + l`. Everything is generic in the float instance: the order of the additions is the kernel's.
-/
module

public import Idealize.ShloMosaic.PureOps
public import Idealize.ShloMosaic.Lib.ValueIdxCore

@[expose] public section

noncomputable section

namespace Cert.Fold

open Idealize.ShloMosaic Idealize.ShloMosaic.ValueIdx

variable {F : FTy → Type} [FloatOps F]

/-- The words of the constants the kernel uses: zero, one half and one. -/
abbrev zeroF : F .f32 := FloatOps.ofBits .f32 0x00000000#32
abbrev halfF : F .f32 := FloatOps.ofBits .f32 0x3F000000#32
abbrev oneF : F .f32 := FloatOps.ofBits .f32 0x3F800000#32

/-- Smooth L1 at a difference `x`: `0.5 * x * x` where `|x| < 1`, else `|x| - 0.5`. -/
def smooth (x : F .f32) : F .f32 :=
  Scalar.select (FloatOps.cmpf .olt (FloatOps.absf x) oneF) (FloatOps.mulf (FloatOps.mulf halfF x) x)
    (FloatOps.subf (FloatOps.absf x) halfF)

/-- One element's term: smooth L1 of the difference where the anchor's label is positive, of zero elsewhere. -/
def term (a b : F .f32) (t : BitVec 32) : F .f32 :=
  smooth (Scalar.select (IntOp.cmpi .sgt t 0#32) (FloatOps.subf a b) zeroF)

/-- One label's contribution to the count of positives. -/
def unit (t : BitVec 32) : F .f32 := Scalar.select (IntOp.cmpi .sgt t 0#32) oneF zeroF

/-- An array over one axis, read at a natural position, wrapped to the axis. -/
def at1 {α : Type} (N : ℕ) (hN : 0 < N) (f : (⟨1, ![N]⟩ : Shape).Idx → α) (n : ℕ) : α := f (ix1 ⟨n % N, Nat.mod_lt n hN⟩)

/-- Inside the axis the wrap does nothing. -/
theorem at1_lt {α : Type} {N : ℕ} (hN : 0 < N) (f : (⟨1, ![N]⟩ : Shape).Idx → α) {n : ℕ} (h : n < N) : at1 N hN f n = f (ix1 ⟨n, h⟩) := by
  unfold at1; congr 2; exact Fin.ext (Nat.mod_eq_of_lt h)

/-- A position of the array is read by its own number. -/
theorem at1_coord {α : Type} {N : ℕ} (hN : 0 < N) (f : (⟨1, ![N]⟩ : Shape).Idx → α) (j : (⟨1, ![N]⟩ : Shape).Idx) : at1 N hN f (j 0).val = f j := by
  rw [at1_lt hN f (show (j 0).val < N from (j 0).isLt)]; exact congrArg f (eq_ix1 j).symm

section
variable (lp lt : ℕ → F .f32) (ct : ℕ → BitVec 32)

/-- The term of flat element `e`; its anchor is `e / 8`. -/
def termAt (e : ℕ) : F .f32 := term (lp e) (lt e) (ct (e / 8))

/-- Lane `l` of worker `w` after its first `n` vectors of elements. -/
def accN (w l : ℕ) : ℕ → F .f32
  | 0 => zeroF
  | n + 1 => FloatOps.addf (accN w l n) (termAt lp lt ct (w * 524288 + 16 * n + l))

/-- Lane `l` of worker `w`'s count after its first `n` vectors of labels. -/
def cntN (w l : ℕ) : ℕ → F .f32
  | 0 => zeroF
  | n + 1 => FloatOps.addf (cntN w l n) (unit (ct (w * 65536 + 16 * n + l)))

/-- The row a worker leaves: its sixteen sums, then its sixteen counts. -/
def rowAt (w l : ℕ) : F .f32 := if l < 16 then accN lp lt ct w l 32768 else cntN ct w (l - 16) 4096

end

/-- Eight more elements of a lane at once. -/
theorem accN_eight (lp lt : ℕ → F .f32) (ct : ℕ → BitVec 32) (w l n : ℕ) (x : Fin 8 → F .f32)
    (h : ∀ k : Fin 8, x k = termAt lp lt ct (w * 524288 + 16 * (n + k.val) + l)) :
    accN lp lt ct w l (n + 8)
      = FloatOps.addf (FloatOps.addf (FloatOps.addf (FloatOps.addf (FloatOps.addf (FloatOps.addf (FloatOps.addf (FloatOps.addf
          (accN lp lt ct w l n) (x 0)) (x 1)) (x 2)) (x 3)) (x 4)) (x 5)) (x 6)) (x 7) := by
  simp only [h]; rfl

end Cert.Fold

end
-- ==== Proof.TileIdeal.lean ====
/-
  One subcore's task of the idealized kernel. It walks its share of the arrays in sixteen chunks; a chunk's predictions,
  targets and labels are copied into the subcore's own memory, and 256 groups of eight vectors are added to a running
  vector of sums, with the positive labels counted beside it. The two loops are proved by invariants that carry the
  values: before a trip the running vectors are the fold of `Cert.Fold` over what has been read.
-/
module

public import proofs.«01_k».proof.Defs
public import proofs.«01_k».proof.Proof.Fold
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Value
public import Idealize.ShloMosaic.Lib.VecWindow
public import Idealize.ShloMosaic.Lib.PointwiseCore
public import Idealize.ShloMosaic.Lib.Tactic
public import proofs.«01_k».proof.Proof.Gen.KernelIdeal
public import proofs.«01_k».proof.Proof.Gen.KernelIdeal.Skeleton

@[expose] public section

set_option maxRecDepth 16384

noncomputable section

namespace Cert.Proof.TileIdeal

open Cert.KernelIdeal Cert.KernelIdeal.Gen Cert.Fold

open Idealize.ShloMosaic hiding ix1
open Idealize.ShloMosaic.ValueIdx (ix1)
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## The arithmetic of one group -/

/-- The label lane `l` uses for vector `k` of a group whose sixteen labels are `tg`: lanes 0–7 hold anchor `2 k`'s
    elements, lanes 8–15 anchor `2 k + 1`'s. -/
def pick (tg : S16.Idx → BitVec 32) (k : Fin 8) (l : Fin 16) : BitVec 32 :=
  tg (ix1 ⟨2 * k.val + l.val / 8, by omega⟩)

/-- One label taken out of the group's vector: a one-element slice, then its element. -/
theorem label_eq (tg : IVec S16 32) (o : ℕ) (ho : o < 16) (h : S16.Slices ![o] S1) :
    extractAt ![0] (extractStridedSlice S1 ![o] tg h) inpos_S1_p0 = tg (ix1 ⟨o, ho⟩) := by
  refine congrArg tg (funext fun a => ?_)
  match a with
  | ⟨0, _⟩ => exact Fin.ext (Nat.add_zero o)

/-- The program picks the label by the lane mask, lane below eight, out of the two labels it takes from the vector. -/
theorem pick_eq (tg : IVec S16 32) (k : Fin 8) (l : Fin 16) (o o' : ℕ) (ho : o = 2 * k.val) (ho' : o' = 2 * k.val + 1)
    (h : S16.Slices ![o] S1) (h' : S16.Slices ![o'] S1) :
    pick tg k l = Scalar.select ((k0_pay1 : IVec S16 1) (ix1 l)) (extractAt ![0] (extractStridedSlice S1 ![o] tg h) inpos_S1_p0)
      (extractAt ![0] (extractStridedSlice S1 ![o'] tg h') inpos_S1_p0) := by
  have hm : ((k0_pay1 : IVec S16 1) (ix1 l)) = BitVec.ofBool (decide (l.val < 8)) := by revert l; decide
  subst ho ho'
  rw [hm, Scalar.select, pick, label_eq tg _ (by omega), label_eq tg _ (by omega)]
  by_cases h : l.val < 8
  · rw [if_pos (by simp [h])]; exact congrArg (fun i => tg (ix1 i)) (Fin.ext (show 2 * k.val + l.val / 8 = 2 * k.val by omega))
  · rw [if_neg (by simp [h])]; exact congrArg (fun i => tg (ix1 i)) (Fin.ext (show 2 * k.val + l.val / 8 = 2 * k.val + 1 by omega))

theorem labels_eq (tg : Vec F S16 .i32) : k0_pay6 (F := F) tg = tg := shapeCast_self _ _

/-- The first vector of a group adds its terms to the running sums. -/
theorem stage0 (acc : FVec F S16 .f32) (tg : IVec S16 32) (a b : Vec F S16 .f32) (l : Fin 16) :
    k0_pay8 k0_pay1 acc tg a b (ix1 l) = FloatOps.addf (acc (ix1 l)) (term (a (ix1 l)) (b (ix1 l)) (pick tg 0 l)) := by
  simp only [k0_pay8, labels_eq, shapeCast_self]
  rw [pick_eq tg 0 l 0 1 rfl rfl slices_S16_o0_S1 slices_S16_o1_S1]; rfl

/-- The second vector of a group. -/
theorem stage1 (acc : FVec F S16 .f32) (tg : IVec S16 32) (a b : Vec F S16 .f32) (l : Fin 16) :
    k0_pay10 k0_pay1 tg acc (k0_pay9 a) b (ix1 l) = FloatOps.addf (acc (ix1 l)) (term (a (ix1 l)) (b (ix1 l)) (pick tg 1 l)) := by
  simp only [k0_pay10, k0_pay9, shapeCast_self]
  rw [pick_eq tg 1 l 2 3 rfl rfl slices_S16_o2_S1 slices_S16_o3_S1]; rfl

/-- The third vector of a group, whose difference is formed before, and the fourth. -/
theorem stage23 (acc : FVec F S16 .f32) (tg : IVec S16 32) (a b a' b' : Vec F S16 .f32) (l : Fin 16) :
    k0_pay14 k0_pay1 tg acc (k0_pay11 k0_pay1 tg a b) (k0_pay12 k0_pay1 tg a b) (k0_pay13 k0_pay1 tg a b) (Scalar.ofBits .f32 0x3F000000#32) a' b' (ix1 l)
      = FloatOps.addf (FloatOps.addf (acc (ix1 l)) (term (a (ix1 l)) (b (ix1 l)) (pick tg 2 l))) (term (a' (ix1 l)) (b' (ix1 l)) (pick tg 3 l)) := by
  have hd : k0_pay11 k0_pay1 tg a b (ix1 l)
      = Scalar.select (IntOp.cmpi .sgt (pick tg 2 l) 0#32) (FloatOps.subf (a (ix1 l)) (b (ix1 l))) (zeroF (F := F)) := by
    simp only [k0_pay11, shapeCast_self]; rw [pick_eq tg 2 l 4 5 rfl rfl slices_S16_o4_S1 slices_S16_o5_S1]; rfl
  simp only [k0_pay14, k0_pay13, k0_pay12, shapeCast_self]
  rw [term, ← hd, pick_eq tg 3 l 6 7 rfl rfl slices_S16_o6_S1 slices_S16_o7_S1]; rfl

/-- The fifth vector of a group and the sixth. -/
theorem stage45 (acc : FVec F S16 .f32) (tg : IVec S16 32) (a b a' b' : Vec F S16 .f32) (l : Fin 16) :
    k0_pay19 k0_pay1 tg acc (k0_pay15 a) (k0_pay16 b) (extractAt ![0] (k0_pay17 tg) inpos_S1_p0) (k0_pay18 tg) a' b' (ix1 l)
      = FloatOps.addf (FloatOps.addf (acc (ix1 l)) (term (a (ix1 l)) (b (ix1 l)) (pick tg 4 l))) (term (a' (ix1 l)) (b' (ix1 l)) (pick tg 5 l)) := by
  simp only [k0_pay19, k0_pay15, k0_pay16, k0_pay17, k0_pay18, shapeCast_self]
  rw [pick_eq tg 4 l 8 9 rfl rfl slices_S16_o8_S1 slices_S16_o9_S1, pick_eq tg 5 l 10 11 rfl rfl slices_S16_o10_S1 slices_S16_o11_S1]; rfl

/-- The seventh vector of a group. -/
theorem stage6 (acc : FVec F S16 .f32) (tg : IVec S16 32) (a b : Vec F S16 .f32) (l : Fin 16) :
    k0_pay20 k0_pay1 tg acc a b (ix1 l) = FloatOps.addf (acc (ix1 l)) (term (a (ix1 l)) (b (ix1 l)) (pick tg 6 l)) := by
  simp only [k0_pay20, shapeCast_self]
  rw [pick_eq tg 6 l 12 13 rfl rfl slices_S16_o12_S1 slices_S16_o13_S1]; rfl

/-- The eighth vector of a group, whose difference is formed before. -/
theorem stage7 (acc : FVec F S16 .f32) (tg : IVec S16 32) (a b : Vec F S16 .f32) (l : Fin 16) :
    k0_pay3 acc (k0_pay21 k0_pay1 tg a b) (ix1 l) = FloatOps.addf (acc (ix1 l)) (term (a (ix1 l)) (b (ix1 l)) (pick tg 7 l)) := by
  simp only [k0_pay3, k0_pay21, shapeCast_self]
  rw [pick_eq tg 7 l 14 15 rfl rfl slices_S16_o14_S1 slices_S16_o15_S1]; rfl

/-- The running sums after one group, as the program computes them, at one lane. -/
theorem group_acc (acc : FVec F S16 .f32) (tg : Vec F S16 .i32) (a b : Fin 8 → Vec F S16 .f32) (l : Fin 16) :
    k0_pay3 (k0_pay20 k0_pay1 (k0_pay6 (F := F) tg)
        (k0_pay19 k0_pay1 (k0_pay6 (F := F) tg)
          (k0_pay14 k0_pay1 (k0_pay6 (F := F) tg)
            (k0_pay10 k0_pay1 (k0_pay6 (F := F) tg) (k0_pay8 k0_pay1 acc tg (a 0) (b 0)) (k0_pay9 (a 1)) (b 1))
            (k0_pay11 k0_pay1 (k0_pay6 (F := F) tg) (a 2) (b 2)) (k0_pay12 k0_pay1 (k0_pay6 (F := F) tg) (a 2) (b 2))
            (k0_pay13 k0_pay1 (k0_pay6 (F := F) tg) (a 2) (b 2)) (Scalar.ofBits .f32 0x3F000000#32) (a 3) (b 3))
          (k0_pay15 (a 4)) (k0_pay16 (b 4)) (extractAt ![0] (k0_pay17 (k0_pay6 (F := F) tg)) inpos_S1_p0) (k0_pay18 (k0_pay6 (F := F) tg))
          (a 5) (b 5))
        (a 6) (b 6)) (k0_pay21 k0_pay1 (k0_pay6 (F := F) tg) (a 7) (b 7)) (ix1 l : S16.Idx)
      = FloatOps.addf (FloatOps.addf (FloatOps.addf (FloatOps.addf (FloatOps.addf (FloatOps.addf (FloatOps.addf (FloatOps.addf
          (acc (ix1 l)) (term (a 0 (ix1 l)) (b 0 (ix1 l)) (pick tg 0 l))) (term (a 1 (ix1 l)) (b 1 (ix1 l)) (pick tg 1 l)))
          (term (a 2 (ix1 l)) (b 2 (ix1 l)) (pick tg 2 l))) (term (a 3 (ix1 l)) (b 3 (ix1 l)) (pick tg 3 l)))
          (term (a 4 (ix1 l)) (b 4 (ix1 l)) (pick tg 4 l))) (term (a 5 (ix1 l)) (b 5 (ix1 l)) (pick tg 5 l)))
          (term (a 6 (ix1 l)) (b 6 (ix1 l)) (pick tg 6 l))) (term (a 7 (ix1 l)) (b 7 (ix1 l)) (pick tg 7 l)) := by
  rw [labels_eq, stage7, stage6, stage45, stage23, stage1, stage0]

/-- The running counts after one group, at one lane. -/
theorem group_cnt (cnt : FVec F S16 .f32) (tg : Vec F S16 .i32) (l : Fin 16) :
    k0_pay7 cnt tg (ix1 l) = FloatOps.addf (cnt (ix1 l)) (unit (tg (ix1 l))) := by
  simp only [k0_pay7, k0_pay6, shapeCast_self]
  rfl

/-! ## The program as the launch sees it, and the buffers -/

abbrev ΛP : Labels := Pipeline.Sig Λ₀ (Fin 0) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

local notation "lpV" => (Memref.whole Cert.KernelIdeal.main_v0_scv : Memref Cert.KernelIdeal.sig Kind.scVector Space.hbm Cert.KernelIdeal.S16777216 EltTy.f32)
local notation "ltV" => (Memref.whole Cert.KernelIdeal.main_v1_scv : Memref Cert.KernelIdeal.sig Kind.scVector Space.hbm Cert.KernelIdeal.S16777216 EltTy.f32)
local notation "ctV" => (Memref.whole Cert.KernelIdeal.main_v2_scv : Memref Cert.KernelIdeal.sig Kind.scVector Space.hbm Cert.KernelIdeal.S2097152 EltTy.i32)
local notation "oV" => (Memref.whole Cert.KernelIdeal.main_v3_scv : Memref Cert.KernelIdeal.sig Kind.scVector Space.hbm Cert.KernelIdeal.S32x32 EltTy.f32)
local notation "aV" => (Memref.whole Cert.KernelIdeal.cc0_scratch0 : Memref Cert.KernelIdeal.sig Kind.scVector Space.vmem Cert.KernelIdeal.S32768 EltTy.f32)
local notation "bV" => (Memref.whole Cert.KernelIdeal.cc0_scratch1 : Memref Cert.KernelIdeal.sig Kind.scVector Space.vmem Cert.KernelIdeal.S32768 EltTy.f32)
local notation "tV" => (Memref.whole Cert.KernelIdeal.cc0_scratch2 : Memref Cert.KernelIdeal.sig Kind.scVector Space.vmem Cert.KernelIdeal.S4096 EltTy.i32)
local notation "rV" => (Memref.whole Cert.KernelIdeal.cc0_scratch3 : Memref Cert.KernelIdeal.sig Kind.scVector Space.vmem Cert.KernelIdeal.S32 EltTy.f32)

abbrev cV (L : grid0.Coords) : Fin τ.nSC := (L 0).castLE hcore0
abbrev jV (L : grid0.Coords) : Fin τ.nSub := (L 1).castLE hsub0

/-- A load of sixteen lanes from position `k` on reads the buffer's contents there. -/
theorem read_lane {κ : Kind} {sp : Space} {N : ℕ} {e : EltTy} {Val : EltTy → Type} (v : View sig κ sp ⟨1, ![N]⟩ e) (f : v.ty.Contents Val)
    (G : ℕ → Val e) (hf : ∀ j, v.read Val f j = G (j 0).val) {o : Fin 1 → ℕ} {k : ℕ} (ho : o = ![k])
    (inb : ∀ a, o a + S16.size a ≤ (⟨1, ![N]⟩ : Shape).size a) (l : Fin 16) :
    v.readAt Val (Rect.unit (s := ⟨1, ![N]⟩) o S16.size inb).toLoadRect f (ix1 l : S16.Idx) = G (k + l.val) := by
  subst ho
  refine (hf _).trans (congrArg G ?_)
  simp
  rfl

/-- Sixteen lanes of each of the three arrays in the subcore's memory. -/
abbrev laneA (o : Fin 1 → ℕ) (inb : ∀ a, o a + S16.size a ≤ S32768.size a) (fa : S32768.Idx → F .f32) : FVec F S16 .f32 :=
  (aV).view.readAt (Elt F) (Rect.unit (s := S32768) o S16.size inb).toLoadRect fa
abbrev laneB (o : Fin 1 → ℕ) (inb : ∀ a, o a + S16.size a ≤ S32768.size a) (fb : S32768.Idx → F .f32) : FVec F S16 .f32 :=
  (bV).view.readAt (Elt F) (Rect.unit (s := S32768) o S16.size inb).toLoadRect fb
abbrev laneT (o : Fin 1 → ℕ) (inb : ∀ a, o a + S16.size a ≤ S4096.size a) (ft : S4096.Idx → BitVec 32) : Vec F S16 .i32 :=
  (tV).view.readAt (Elt F) (Rect.unit (s := S4096) o S16.size inb).toLoadRect ft

theorem laneA_eq {fa : S32768.Idx → F .f32} (G : ℕ → F .f32) (hf : ∀ j, fa j = G (j 0).val) {o : Fin 1 → ℕ} {k : ℕ} (ho : o = ![k]) (inb) (l : Fin 16) :
    laneA o inb fa (ix1 l) = G (k + l.val) :=
  read_lane (N := 32768) (e := .f32) (Val := Elt F) (View.whole cc0_scratch0) fa G hf ho inb l
theorem laneB_eq {fb : S32768.Idx → F .f32} (G : ℕ → F .f32) (hf : ∀ j, fb j = G (j 0).val) {o : Fin 1 → ℕ} {k : ℕ} (ho : o = ![k]) (inb) (l : Fin 16) :
    laneB o inb fb (ix1 l) = G (k + l.val) :=
  read_lane (N := 32768) (e := .f32) (Val := Elt F) (View.whole cc0_scratch1) fb G hf ho inb l
theorem laneT_eq {ft : S4096.Idx → BitVec 32} (G : ℕ → BitVec 32) (hf : ∀ j, ft j = G (j 0).val) {o : Fin 1 → ℕ} {k : ℕ} (ho : o = ![k]) (inb) (l : Fin 16) :
    laneT (F := F) o inb ft (ix1 l) = G (k + l.val) :=
  read_lane (N := 4096) (e := .i32) (Val := Elt F) (View.whole cc0_scratch2) ft G hf ho inb l

/-- The running vectors of worker `w` after `n` vectors of elements and `k` vectors of labels. -/
def stateAt (lp lt : ℕ → F .f32) (ct : ℕ → BitVec 32) (w n k : ℕ) : FVec F S16 .f32 × FVec F S16 .f32 :=
  (fun j => accN lp lt ct w (j 0).val n, fun j => cntN ct w (j 0).val k)

section Trips

variable (d : Dev nD) (L : grid0.Coords) (lp lt : ℕ → F .f32) (ct : ℕ → BitVec 32) (w : ℕ)

set_option maxHeartbeats 4000000 in
/-- One group: with chunk `c`'s elements and labels in the subcore's memory, the trip takes the running vectors to the
    fold over eight more vectors of elements and one more of labels, and leaves the memory as it was. -/
theorem trip2 (c : ℕ) (fa fb : S32768.Idx → F .f32) (ft : S4096.Idx → BitVec 32)
    (ha : ∀ j, fa j = lp (w * 524288 + 32768 * c + (j 0).val)) (hb : ∀ j, fb j = lt (w * 524288 + 32768 * c + (j 0).val))
    (ht : ∀ j, ft j = ct (w * 65536 + 4096 * c + (j 0).val)) (g : Fin k0_t2_loop.trips) :
    iprop(((aV).view.loc (V d (cV L) (jV L)) ↦{fullShare} fa : sProp 𝕄) ∗ ((bV).view.loc (V d (cV L) (jV L)) ↦{fullShare} fb)
        ∗ ((tV).view.loc (V d (cV L) (jV L)) ↦{fullShare} ft))
      ⊢ wp frame (wpE (defs₀ (F := F)) 𝒱₀ (V d (cV L) (jV L)) none) Set.univ
          (k0_t2_body L lpV (Memref.isWhole_whole _) ltV (Memref.isWhole_whole _) ctV (Memref.isWhole_whole _) oV (Memref.isWhole_whole _)
            aV (Memref.isWhole_whole _) bV (Memref.isWhole_whole _) tV (Memref.isWhole_whole _) rV (Memref.isWhole_whole _)
            cc0_scoped0 cc0_scoped1 cc0_scoped2 cc0_scoped3 g (stateAt lp lt ct w (2048 * c + 8 * g.val) (256 * c + g.val)))
          fun r => iprop(⌜r = stateAt lp lt ct w (2048 * c + 8 * (g.val + 1)) (256 * c + (g.val + 1))⌝
            ∗ ((aV).view.loc (V d (cV L) (jV L)) ↦{fullShare} fa : sProp 𝕄) ∗ ((bV).view.loc (V d (cV L) (jV L)) ↦{fullShare} fb)
            ∗ ((tV).view.loc (V d (cV L) (jV L)) ↦{fullShare} ft)) := by
  iintro ⟨Ha, Hb, Ht⟩
  unfold k0_t2_body stateAt
  sl_exec
  sl_step
  isplitr
  · ipureintro
    refine Prod.ext (funext fun j => ?_) (funext fun j => ?_)
    · obtain ⟨l, rfl⟩ : ∃ l : Fin 16, j = ix1 l := ⟨j 0, ValueIdx.eq_ix1 j⟩
      have key : ∀ k : Fin 8,
          term (laneA (k0_off4 g (BitVec.ofNat 32 (16 * k.val))) (k0_off4_inb g k) fa (ix1 l))
            (laneB (k0_off4 g (BitVec.ofNat 32 (16 * k.val))) (k0_off4_inb g k) fb (ix1 l))
            (pick (laneT (F := F) (k0_off3 g) (k0_off3_inb g) ft) k l)
          = termAt lp lt ct (w * 524288 + 16 * (2048 * c + 8 * g.val + k.val) + l.val) := fun k => by
        have e : w * 524288 + 32768 * c + (128 * g.val + 16 * k.val + l.val) = w * 524288 + 16 * (2048 * c + 8 * g.val + k.val) + l.val := by omega
        have e' : w * 65536 + 4096 * c + (16 * g.val + (2 * k.val + l.val / 8)) = (w * 524288 + 16 * (2048 * c + 8 * g.val + k.val) + l.val) / 8 := by
          rw [show w * 524288 + 16 * (2048 * c + 8 * g.val + k.val) + l.val = 8 * (w * 65536 + 4096 * c + 16 * g.val + 2 * k.val) + l.val by ring,
            Nat.mul_add_div (by decide)]
          ring
        rw [termAt, ← e', ← e, pick]
        exact congr (congr (congrArg term (laneA_eq (fun n => lp (w * 524288 + 32768 * c + n)) ha (k0_off4_eq g k) _ l))
          (laneB_eq (fun n => lt (w * 524288 + 32768 * c + n)) hb (k0_off4_eq g k) _ l))
          (laneT_eq (fun n => ct (w * 65536 + 4096 * c + n)) ht (k0_off3_eq g) _ ⟨2 * k.val + l.val / 8, by omega⟩)
      have h8 := accN_eight lp lt ct w l.val (2048 * c + 8 * g.val) _ key
      show (k0_pay3 _ _ : FVec F S16 .f32) (ix1 l) = accN lp lt ct w l.val (2048 * c + 8 * g.val + 8)
      rw [h8]
      unfold trip2.sl.r_13 trip2.sl.r_14 trip2.sl.r_12 trip2.sl.r_11 trip2.sl.r_10 trip2.sl.r_9 trip2.sl.r_8 trip2.sl.r_7 trip2.sl.r_6 trip2.sl.r_5
        trip2.sl.r_4 trip2.sl.r_3 trip2.sl.r_2 trip2.sl.v163 trip2.sl.cst_28 trip2.sl.r
      rw [labels_eq, stage7, stage6, stage45, stage23, stage1, stage0]
      rfl
    · obtain ⟨l, rfl⟩ : ∃ l : Fin 16, j = ix1 l := ⟨j 0, ValueIdx.eq_ix1 j⟩
      unfold trip2.sl.r_1
      have e : w * 65536 + 4096 * c + (16 * g.val + l.val) = w * 65536 + 16 * (256 * c + g.val) + l.val := by omega
      have h9 : k0_pay7 (F := F) (fun j => cntN ct w (j 0).val (256 * c + g.val)) (laneT (F := F) (k0_off3 g) (k0_off3_inb g) ft) (ix1 l : S16.Idx)
          = cntN ct w l.val (256 * c + g.val + 1) := by
        rw [group_cnt, laneT_eq (fun n => ct (w * 65536 + 4096 * c + n)) ht (k0_off3_eq g) _ l, e, cntN]
      exact h9
  isplitl [Ha]; · iexact Ha
  isplitl [Hb] <;> iassumption

theorem trips1 : k0_t1_loop.trips = 16 := by decide +kernel
theorem trips2 : k0_t2_loop.trips = 256 := by decide +kernel

/-- A chunk of a flat array starting at position `k`, read at its element `j`, is the array's element `k + j`. -/
theorem chunk_read {α : Type} {N n k : ℕ} (hN : 0 < N) (f : (⟨1, ![N]⟩ : Shape).Idx → α) {o : Fin 1 → ℕ} (ho : o = ![k])
    (inb : ∀ a, o a + (![n] : Fin 1 → ℕ) a ≤ (⟨1, ![N]⟩ : Shape).size a) (j : (⟨1, ![n]⟩ : Shape).Idx) :
    f ((Rect.unit (s := ⟨1, ![N]⟩) o ![n] inb).emb j) = at1 N hN f (k + (j 0).val) := by
  subst ho
  have hj : (j 0).val < n := (j 0).isLt
  have hk : k + n ≤ N := inb 0
  rw [at1_lt hN f (show k + (j 0).val < N by omega)]
  refine congrArg f (funext fun a => ?_)
  obtain rfl : a = 0 := Subsingleton.elim _ _
  refine Fin.ext ?_
  simp
  rfl

/-- The chunks of predictions, of targets and of labels as the task addresses them. -/
abbrev lpK (L : grid0.Coords) (c : Fin k0_t1_loop.trips) : Memref sig .scVector .hbm S32768 .f32 :=
  (lpV).slice (Rect.unit (s := S16777216) (k0_off1 L c) S32768.size (k0_off1_inb L c)) (fun _ => rfl)
abbrev ltK (L : grid0.Coords) (c : Fin k0_t1_loop.trips) : Memref sig .scVector .hbm S32768 .f32 :=
  (ltV).slice (Rect.unit (s := S16777216) (k0_off1 L c) S32768.size (k0_off1_inb L c)) (fun _ => rfl)
abbrev ctK (L : grid0.Coords) (c : Fin k0_t1_loop.trips) : Memref sig .scVector .hbm S4096 .i32 :=
  (ctV).slice (Rect.unit (s := S2097152) (k0_off2 L c) S4096.size (k0_off2_inb L c)) (fun _ => rfl)

end Trips

section Chunk

variable (d : Dev nD) (L : grid0.Coords) (flp flt : S16777216.Idx → F .f32) (fct : S2097152.Idx → BitVec 32)

/-- The number of the worker at grid coordinates `L`. -/
abbrev wid (L : grid0.Coords) : ℕ := 2 * (L 1).val + (L 0).val

/-- The three arrays as functions of a flat position. -/
abbrev lpAt : ℕ → F .f32 := at1 16777216 (by decide) flp
abbrev ltAt : ℕ → F .f32 := at1 16777216 (by decide) flt
abbrev ctAt : ℕ → BitVec 32 := at1 2097152 (by decide) fct

theorem lpK_read (c : Fin k0_t1_loop.trips) (j : S32768.Idx) :
    (lpK L c).view.read (Elt F) flp j = lpAt flp (wid L * 524288 + 32768 * c.val + (j 0).val) :=
  (chunk_read (N := 16777216) (n := 32768) (by decide) flp (k0_off1_eq L c) (k0_off1_inb L c) j).trans
    (congrArg (fun n => lpAt flp (n + (j 0).val)) (by simp only [wid]; ring))
theorem ltK_read (c : Fin k0_t1_loop.trips) (j : S32768.Idx) :
    (ltK L c).view.read (Elt F) flt j = ltAt flt (wid L * 524288 + 32768 * c.val + (j 0).val) :=
  (chunk_read (N := 16777216) (n := 32768) (by decide) flt (k0_off1_eq L c) (k0_off1_inb L c) j).trans
    (congrArg (fun n => ltAt flt (n + (j 0).val)) (by simp only [wid]; ring))
theorem ctK_read (c : Fin k0_t1_loop.trips) (j : S4096.Idx) :
    (ctK L c).view.read (Elt F) fct j = ctAt fct (wid L * 65536 + 4096 * c.val + (j 0).val) :=
  (chunk_read (N := 2097152) (n := 4096) (by decide) fct (k0_off2_eq L c) (k0_off2_inb L c) j).trans
    (congrArg (fun n => ctAt fct (n + (j 0).val)) (by simp only [wid]; ring))

abbrev st (n k : ℕ) : FVec F S16 .f32 × FVec F S16 .f32 := stateAt (lpAt flp) (ltAt flt) (ctAt fct) (wid L) n k

/-- What the task holds between groups of chunk `c`: the running vectors as the fold says, and the chunk in memory. -/
def inv2 (c : ℕ) (fa fb : S32768.Idx → F .f32) (ft : S4096.Idx → BitVec 32) (g : ℕ) (acc : FVec F S16 .f32 × FVec F S16 .f32) : sProp 𝕄 :=
  iprop(⌜acc = st L flp flt fct (2048 * c + 8 * g) (256 * c + g)⌝
    ∗ ((aV).view.loc (V d (cV L) (jV L)) ↦{fullShare} fa : sProp 𝕄) ∗ ((bV).view.loc (V d (cV L) (jV L)) ↦{fullShare} fb)
    ∗ ((tV).view.loc (V d (cV L) (jV L)) ↦{fullShare} ft))

abbrev cell0 : GSem nD τ sig := (V d (cV L) (jV L), .dma cc0_scoped0.sem)
abbrev cell1 : GSem nD τ sig := (V d (cV L) (jV L), .dma cc0_scoped1.sem)
abbrev cell2 : GSem nD τ sig := (V d (cV L) (jV L), .dma cc0_scoped2.sem)
abbrev cell3 : GSem nD τ sig := (V d (cV L) (jV L), .dma cc0_scoped3.sem)

/-- What the task holds between chunks: the running vectors as the fold says, its shares of the three arrays, the chunk
    buffers at any contents, the three copies' semaphores at zero. -/
def inv1 (q : PosShare TreeShare) (O : CellTallies nD τ sig (HIx 1)) (W : Waits sig (HIx 1)) (c : ℕ) (acc : FVec F S16 .f32 × FVec F S16 .f32) : sProp 𝕄 :=
  iprop(⌜acc = st L flp flt fct (2048 * c) (256 * c)⌝
    ∗ Transfers.MayWaits (V d (cV L) (jV L)) (default : HIx 1) O
    ∗ ((lpV).view.loc (V d (cV L) (jV L)) ↦{q} flp : sProp 𝕄) ∗ ((ltV).view.loc (V d (cV L) (jV L)) ↦{q} flt)
    ∗ ((ctV).view.loc (V d (cV L) (jV L)) ↦{q} fct)
    ∗ (∃ fa, (aV).view.loc (V d (cV L) (jV L)) ↦{fullShare} fa) ∗ (∃ fb, (bV).view.loc (V d (cV L) (jV L)) ↦{fullShare} fb)
    ∗ (∃ ft, (tV).view.loc (V d (cV L) (jV L)) ↦{fullShare} ft)
    ∗ semVal (cell0 d L) 0 ∗ semVal (cell1 d L) 0 ∗ semVal (cell2 d L) 0
    ∗ ∃ W', ⌜∀ p ∈ W', p ∈ W ∨ p.2 = none⌝ ∗ owes (V d (cV L) (jV L)) O W')

set_option maxHeartbeats 4000000 in
/-- One chunk: three copies into the subcore's memory, then 256 groups. -/
theorem trip1 (q : PosShare TreeShare) (O : CellTallies nD τ sig (HIx 1)) (W : Waits sig (HIx 1)) (c : Fin k0_t1_loop.trips)
    (acc : FVec F S16 .f32 × FVec F S16 .f32) :
    inv1 d L flp flt fct q O W c.val acc
      ⊢ wp frame (wpE (defs₀ (F := F)) 𝒱₀ (V d (cV L) (jV L)) none) Set.univ
          (k0_t1_body L lpV (Memref.isWhole_whole _) ltV (Memref.isWhole_whole _) ctV (Memref.isWhole_whole _) oV (Memref.isWhole_whole _)
            aV (Memref.isWhole_whole _) bV (Memref.isWhole_whole _) tV (Memref.isWhole_whole _) rV (Memref.isWhole_whole _)
            cc0_scoped0 cc0_scoped1 cc0_scoped2 cc0_scoped3 c acc)
          (inv1 d L flp flt fct q O W (c.val + 1)) := by
  unfold k0_t1_body inv1
  iintro ⟨%hacc, Hmw, Hlp, Hlt, Hct, ⟨%fa, Ha⟩, ⟨%fb, Hb⟩, ⟨%ft, Ht⟩, Hs0, Hs1, Hs2, %W', %hW', HO⟩
  sl_exec (disch := exact View.amount_pos _ _ (show 0 < S32768.numel by decide))
  have ha : ∀ j, View.write (Elt F) (aV).view fa ((lpK L c).view.read (Elt F) flp) Finset.univ j
      = lpAt flp (wid L * 524288 + 32768 * c.val + (j 0).val) := fun j =>
    (congrFun (View.write_whole_univ _ _ _) j).trans (lpK_read L flp c j)
  have hb : ∀ j, View.write (Elt F) (bV).view fb ((ltK L c).view.read (Elt F) flt) Finset.univ j
      = ltAt flt (wid L * 524288 + 32768 * c.val + (j 0).val) := fun j =>
    (congrFun (View.write_whole_univ _ _ _) j).trans (ltK_read L flt c j)
  have ht : ∀ j, View.write (Elt F) (tV).view ft ((ctK L c).view.read (Elt F) fct) Finset.univ j
      = ctAt fct (wid L * 65536 + 4096 * c.val + (j 0).val) := fun j =>
    (congrFun (View.write_whole_univ _ _ _) j).trans (ctK_read L fct c j)
  sl_for (inv2 d L flp flt fct c.val _ _ _) $$ [Ha Hb Ht]
  case region =>
    intro g acc'
    unfold inv2
    iintro ⟨%hacc', Ha, Hb, Ht⟩
    subst hacc'
    iapply (trip2 d L (lpAt flp) (ltAt flt) (ctAt fct) (wid L) c.val _ _ _ ha hb ht g)
    isplitl [Ha]; · iexact Ha
    isplitl [Hb] <;> iassumption
  · unfold inv2
    isplitr; · ipureintro; exact hacc
    isplitl [Ha]; · iexact Ha
    isplitl [Hb]; · iexact Hb
    iexact Ht
  iintro %acc' HI
  obtain ⟨x, y⟩ := acc'
  unfold inv2
  icases HI with ⟨%hacc', Ha, Hb, Ht⟩
  unfold trip1.sl.prog.cont_1
  dsimp only
  sl_step
  isplitr
  · ipureintro
    refine hacc'.trans ?_
    have e1 : 2048 * c.val + 8 * k0_t2_loop.trips = 2048 * (c.val + 1) := by rw [trips2]; ring
    have e2 : 256 * c.val + k0_t2_loop.trips = 256 * (c.val + 1) := by rw [trips2]; ring
    exact congr (congrArg (st L flp flt fct) e1) e2
  isplitl [Hmw]; · iexact Hmw
  isplitl [Hlp]; · iexact Hlp
  isplitl [Hlt]; · iexact Hlt
  isplitl [Hct]; · iexact Hct
  isplitl [Ha]; · iexists _; iexact Ha
  isplitl [Hb]; · iexists _; iexact Hb
  isplitl [Ht]; · iexists _; iexact Ht
  isplitl [Hs0]; · iexact Hs0
  isplitl [Hs1]; · iexact Hs1
  isplitl [Hs2]; · iexact Hs2
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact hW' p hp

end Chunk

end Cert.Proof.TileIdeal

end
-- ==== Proof.LaunchIdeal.lean ====
/-
  The idealized kernel's launch and its program. Each of the 32 vector subcores takes a read share of the three flat
  arrays and its own row of the output array, and leaves in the row its sixteen sums and its sixteen counts; the
  sequencers hand those through; the TensorCore reshapes the arguments before the launch and adds up the rows after it.
-/
module

public import proofs.«01_k».proof.Defs
public import proofs.«01_k».proof.Proof.TileIdeal
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Value
public import Idealize.ShloMosaic.Lib.VecWindow
public import Idealize.ShloMosaic.Lib.PointwiseCore
public import Idealize.ShloMosaic.Lib.Tactic
public import proofs.«01_k».proof.Proof.Gen.KernelIdeal
public import proofs.«01_k».proof.Proof.Gen.KernelIdeal.Skeleton

@[expose] public section

set_option maxRecDepth 16384

noncomputable section

namespace Cert.Proof.LaunchIdeal

open Cert.KernelIdeal Cert.KernelIdeal.Gen Cert.Fold Cert.Proof.TileIdeal

open Idealize.ShloMosaic hiding ix1
open Idealize.ShloMosaic.ValueIdx (ix1)
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "lpV" => (Memref.whole Cert.KernelIdeal.main_v0_scv : Memref Cert.KernelIdeal.sig Kind.scVector Space.hbm Cert.KernelIdeal.S16777216 EltTy.f32)
local notation "ltV" => (Memref.whole Cert.KernelIdeal.main_v1_scv : Memref Cert.KernelIdeal.sig Kind.scVector Space.hbm Cert.KernelIdeal.S16777216 EltTy.f32)
local notation "ctV" => (Memref.whole Cert.KernelIdeal.main_v2_scv : Memref Cert.KernelIdeal.sig Kind.scVector Space.hbm Cert.KernelIdeal.S2097152 EltTy.i32)
local notation "oV" => (Memref.whole Cert.KernelIdeal.main_v3_scv : Memref Cert.KernelIdeal.sig Kind.scVector Space.hbm Cert.KernelIdeal.S32x32 EltTy.f32)
local notation "aV" => (Memref.whole Cert.KernelIdeal.cc0_scratch0 : Memref Cert.KernelIdeal.sig Kind.scVector Space.vmem Cert.KernelIdeal.S32768 EltTy.f32)
local notation "bV" => (Memref.whole Cert.KernelIdeal.cc0_scratch1 : Memref Cert.KernelIdeal.sig Kind.scVector Space.vmem Cert.KernelIdeal.S32768 EltTy.f32)
local notation "tV" => (Memref.whole Cert.KernelIdeal.cc0_scratch2 : Memref Cert.KernelIdeal.sig Kind.scVector Space.vmem Cert.KernelIdeal.S4096 EltTy.i32)
local notation "rV" => (Memref.whole Cert.KernelIdeal.cc0_scratch3 : Memref Cert.KernelIdeal.sig Kind.scVector Space.vmem Cert.KernelIdeal.S32 EltTy.f32)

/-! ## The arrays, their shares and the rows of the output -/

abbrev lpLoc (d : Dev nD) : Loc nD τ sig := (SparseCore.T d).loc main_v0
abbrev ltLoc (d : Dev nD) : Loc nD τ sig := (SparseCore.T d).loc main_v1
abbrev ctLoc (d : Dev nD) : Loc nD τ sig := (SparseCore.T d).loc main_v2
abbrev oLoc (d : Dev nD) : Loc nD τ sig := (SparseCore.T d).loc main_v3

theorem odiv : 32 ∣ S32x32.size 0 := ⟨1, rfl⟩
abbrev orow (i : Fin 32) : Rect S32x32 := Rect.part (s := S32x32) (a₀ := 0) odiv i
abbrev oRowSet (i : Fin 32) : Finset S32x32.Idx := ((oV).view.slice (orow i)).set

/-- Worker `i`'s share of an array read by all. -/
abbrev shr (i : Fin 32) : PosShare TreeShare := pieceOf fullShare 32 (by decide) i

/-- The worker at grid coordinates `L`. -/
def wF (L : grid0.Coords) : Fin 32 :=
  ⟨wid L, by have h0 : (L 0).val < 2 := (L 0).isLt; have h1 : (L 1).val < 16 := (L 1).isLt; simp only [wid]; omega⟩

abbrev orowK (L : grid0.Coords) : Rect S32x32 := Rect.unit (s := S32x32) (k0_off5 L) S1x32.size (k0_off5_inb L)
abbrev oRowK (L : grid0.Coords) : Memref sig .scVector .hbm S32 .f32 := ((oV).slice (orowK L) (fun _ => rfl)).squeeze S32 squeezes_S1x32_S32

theorem orowK_eq (L : grid0.Coords) : orowK L = orow (wF L) := by
  unfold orowK orow Rect.part Rect.block
  congr 1 <;> funext a
  · rw [k0_off5_eq]
    match a with
    | 0 => simp [Shape.partIx, Shape.partSize, wF, wid]
    | 1 => simp [Shape.partIx, Shape.partSize]
  · match a with
    | 0 => simp [Shape.partSize]
    | 1 => simp [Shape.partSize]

theorem set_oRowK (L : grid0.Coords) : (oRowK L).view.set = oRowSet (wF L) := by
  show (((oV).view.slice (orowK L)).reshape S32 squeezes_S1x32_S32.numel_eq).set = ((oV).view.slice (orow (wF L))).set
  rw [View.set_reshape]
  exact orowK_eq L ▸ rfl

theorem pts_oRowK (d : Dev nD) (L : grid0.Coords) (f : Buf (Elt F) (oLoc d)) :
    ((oRowK L).view.loc (V d (cV L) (jV L)) ↦[(oRowK L).view.set]{fullShare} f : sProp 𝕄) = oLoc d ↦[oRowSet (wF L)]{fullShare} f := by
  rw [set_oRowK]

variable [FloatOps F]

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

section Tile

variable (d : Dev nD) (L : grid0.Coords) (flp flt : S16777216.Idx → F .f32) (fct : S2097152.Idx → BitVec 32)

/-- The output array: row `w` is what worker `w` leaves. -/
def outV : S32x32.Idx → F .f32 := fun i => rowAt (lpAt flp) (ltAt flt) (ctAt fct) (i 0).val (i 1).val

theorem ownSems0_V :
    (ownSems0 (V d (cV L) (jV L)) : sProp 𝕄)
      = iprop(semVal (cell0 d L) 0 ∗ semVal (cell1 d L) 0 ∗ semVal (cell2 d L) 0 ∗ semVal (cell3 d L) 0
          ∗ bigSep (((((ownCells (V d (cV L) (jV L))).erase (cell0 d L)).erase (cell1 d L)).erase (cell2 d L)).erase (cell3 d L)) fun g => semVal g 0) := by
  have own : ∀ s : DmaSem sig, (SemLoc.dma s : SemLoc sig).isScoped .scVector = true → (V d (cV L) (jV L), .dma s) ∈ ownCells (V d (cV L) (jV L)) :=
    fun s h => mem_ownCells.mpr ⟨rfl, h⟩
  have ne : ∀ s s' : DmaSem sig, s ≠ s' → ((V d (cV L) (jV L), .dma s) : GSem nD τ sig) ≠ (V d (cV L) (jV L), .dma s') :=
    fun s s' h e => h (by injection e with _ e; injection e)
  unfold SparseCore.Cfg.ownSems0
  rw [SparseCore.bigSep_erase' (own cc0_scoped0.sem (by decide)),
    SparseCore.bigSep_erase' (Finset.mem_erase.mpr ⟨ne _ _ (by decide), own cc0_scoped1.sem (by decide)⟩),
    SparseCore.bigSep_erase' (Finset.mem_erase.mpr ⟨ne _ _ (by decide), Finset.mem_erase.mpr ⟨ne _ _ (by decide), own cc0_scoped2.sem (by decide)⟩⟩),
    SparseCore.bigSep_erase' (Finset.mem_erase.mpr ⟨ne _ _ (by decide), Finset.mem_erase.mpr ⟨ne _ _ (by decide),
      Finset.mem_erase.mpr ⟨ne _ _ (by decide), own cc0_scoped3.sem (by decide)⟩⟩⟩)]

/-- The subcore's own buffers: its four scratch buffers at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f) ∗ (∃ f, (V d (cV L) (jV L)).loc cc0_scratch3 ↦{fullShare} f)
          ∗ bigSep (((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2)).erase
              ((Proc.scVector (cV L) (jV L)).devRef cc0_scratch3))
              fun b => iprop(∃ f, ((d, b) : Loc nD τ sig) ↦{fullShare} f)) := by
  have own : ∀ b : Ref sig .scVector, ((Proc.scVector (cV L) (jV L)).devRef b).owner = .proc (.scVector (cV L) (jV L)) →
      (Proc.scVector (cV L) (jV L)).devRef b ∈ ownRefs (τ := τ) (.scVector (cV L) (jV L)) :=
    fun b h => SparseCore.Cfg.mem_ownRefs_of_owner (p := Proc.scVector (cV L) (jV L)) h
  have ne : ∀ b b' : Ref sig .scVector, b ≠ b' → (Proc.scVector (cV L) (jV L)).devRef b ≠ (Proc.scVector (cV L) (jV L)).devRef b' :=
    fun b b' h e => h (Proc.devRef_injective _ e)
  unfold SparseCore.Cfg.ownBufs
  refine (SparseCore.bigSep_erase' (own cc0_scratch0 rfl)).trans ?_
  rw [SparseCore.bigSep_erase' (Finset.mem_erase.mpr ⟨ne _ _ (by decide), own cc0_scratch1 rfl⟩),
    SparseCore.bigSep_erase' (Finset.mem_erase.mpr ⟨ne _ _ (by decide), Finset.mem_erase.mpr ⟨ne _ _ (by decide), own cc0_scratch2 rfl⟩⟩),
    SparseCore.bigSep_erase' (Finset.mem_erase.mpr ⟨ne _ _ (by decide), Finset.mem_erase.mpr ⟨ne _ _ (by decide),
      Finset.mem_erase.mpr ⟨ne _ _ (by decide), own cc0_scratch3 rfl⟩⟩⟩)]

abbrev outPts (i : Fin 32) (f : Buf (Elt F) (oLoc d)) : sProp 𝕄 := oLoc d ↦[oRowSet i]{fullShare} f
abbrev inPts (q : PosShare TreeShare) : sProp 𝕄 := iprop((lpLoc d ↦{q} flp) ∗ (ltLoc d ↦{q} flt) ∗ (ctLoc d ↦{q} fct))

/-- Element `x` of worker `L`'s row, as the task addresses it, is at row `wid L`, column `x`. -/
theorem oRowK_emb (x : S32.Idx) : ((oRowK L).view.emb x (0 : Fin 2)).val = wid L ∧ ((oRowK L).view.emb x (1 : Fin 2)).val = (x 0).val := by
  have e : Shape.reshapeEquiv squeezes_S1x32_S32.numel_eq x = (ValueIdx.ix2 (0 : Fin 1) (x 0) : S1x32.Idx) :=
    Shape.reshapeEquiv_eq_of_rowMajor _ (by
      rw [Shape.rowMajor_val_two, Shape.rowMajor_val_one]
      show 0 * 32 + (x 0).val = (x 0).val
      omega)
  have h : (oRowK L).view.emb x = (orowK L).emb (Shape.reshapeEquiv squeezes_S1x32_S32.numel_eq x) := rfl
  rw [h, e]
  have o0 : k0_off5 L 0 = wid L := congrFun (k0_off5_eq L) 0
  have o1 : k0_off5 L 1 = 0 := congrFun (k0_off5_eq L) 1
  constructor
  · show k0_off5 L 0 + 1 * 0 = wid L
    rw [o0]; rfl
  · show k0_off5 L 1 + 1 * (x 0).val = (x 0).val
    rw [o1]; omega

/-- A row written with `p`, read on the row's elements. -/
theorem row_written (fo : S32x32.Idx → F .f32) (p : S32.Idx → F .f32) (hp : ∀ j, p j = rowAt (lpAt flp) (ltAt flt) (ctAt fct) (wid L) (j 0).val) :
    ∀ i ∈ (oRowK L).view.set, (oRowK L).view.writes (Elt F) fo [⟨Rect.whole S32, p⟩] i = outV flp flt fct i := by
  intro i hi
  obtain ⟨x, -, rfl⟩ := Finset.mem_map.mp hi
  obtain ⟨h0, h1⟩ := oRowK_emb L x
  have hw := View.read_writes_cons_emb (Val := Elt F) (oRowK L).view fo (Rect.whole S32) p [] x
  rw [Rect.emb_whole_apply] at hw
  refine Eq.trans ?_ (hw.trans ((hp x).trans ?_))
  · rfl
  · show rowAt _ _ _ (wid L) (x 0).val = rowAt _ _ _ ((oRowK L).view.emb x (0 : Fin 2)).val ((oRowK L).view.emb x (1 : Fin 2)).val
    rw [h0, h1]

/-- The row buffer after its two stores: sixteen sums, then sixteen counts. -/
theorem row_buffer (fr : S32.Idx → F .f32) (x y : FVec F S16 .f32)
    (h : (x, y) = st L flp flt fct (2048 * k0_t1_loop.trips) (256 * k0_t1_loop.trips)) (j : S32.Idx) :
    (rV).view.read (Elt F) ((rV).view.writes (Elt F) fr [⟨Rect.unit (s := S32) ![16] S16.size inb_S32_S16_16, k0_pay5 y⟩,
      ⟨Rect.unit (s := S32) ![0] S16.size inb_S32_S16_0, k0_pay4 x⟩]) j = rowAt (lpAt flp) (ltAt flt) (ctAt fct) (wid L) (j 0).val := by
  have hx : ∀ k, k0_pay4 x k = accN (lpAt flp) (ltAt flt) (ctAt fct) (wid L) (k 0).val 32768 := fun k => by
    rw [show k0_pay4 x = x from shapeCast_self _ _, show x = _ from congrArg Prod.fst h, trips1]; rfl
  have hy : ∀ k, k0_pay5 y k = cntN (ctAt fct) (wid L) (k 0).val 4096 := fun k => by
    rw [show k0_pay5 y = y from shapeCast_self _ _, show y = _ from congrArg Prod.snd h, trips1]; rfl
  have hj : (j 0).val < 32 := (j 0).isLt
  unfold rowAt
  by_cases hl : (j 0).val < 16
  · rw [if_pos hl, View.read_writes_cons_unit_of_not_mem _ _ (s := S32) (size := S16.size) inb_S32_S16_16 _ _ j rfl (0 : Fin 1) (Or.inl hl),
      View.read_writes_cons_unit_of_mem _ _ (s := S32) (size := S16.size) inb_S32_S16_0 _ _ j (ix1 ⟨(j 0).val, hl⟩ : S16.Idx) rfl
        (fun a => by obtain rfl : a = 0 := Subsingleton.elim _ _; exact (Nat.zero_add _).symm)]
    exact hx _
  · rw [if_neg hl, View.read_writes_cons_unit_of_mem _ _ (s := S32) (size := S16.size) inb_S32_S16_16 _ _ j (ix1 ⟨(j 0).val - 16, by omega⟩ : S16.Idx) rfl
        (fun a => by obtain rfl : a = 0 := Subsingleton.elim _ _; show (j 0).val = 16 + ((j 0).val - 16); omega)]
    exact hy _

set_option maxHeartbeats 4000000 in
/-- The task on vector subcore `(L 0, L 1)`: from its shares of the arrays and its row of the output to the row written
    with its sums and counts. -/
theorem tile_body (hF : (K (F := F)).Facts) (q : PosShare TreeShare) (fo : Buf (Elt F) (oLoc d)) (O : CellTallies nD τ sig (HIx 1)) (W : Waits sig (HIx 1)) (hO : ∀ g, O g none = 0) :
    iprop(levAts (K (F := F)).L (K (F := F)).lev ∗ emp
        ∗ (inPts d flp flt fct q ∗ outPts d (wF L) fo)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_body L lpV (Memref.isWhole_whole _) ltV (Memref.isWhole_whole _) ctV (Memref.isWhole_whole _) oV (Memref.isWhole_whole _)
            aV (Memref.isWhole_whole _) bV (Memref.isWhole_whole _) tV (Memref.isWhole_whole _) rV (Memref.isWhole_whole _)
            cc0_scoped0 cc0_scoped1 cc0_scoped2 cc0_scoped3)
          fun _ => iprop((inPts d flp flt fct q ∗ outPts d (wF L) (outV flp flt fct))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__sc_body_eq_skeleton]; unfold cc0__sc_body_skel
  rw [(K (F := F)).scopedBufs_V hF d (cV L) (jV L), SparseCore.Cfg.scopedSems0_V (Val := Elt F) d (cV L) (jV L), ownSems0_V, ownBufs_V]
  iintro ⟨#Hlv, -, ⟨⟨Hlp, Hlt, Hct⟩, Ho⟩, ⟨⟨%fa, Ha⟩, ⟨%fb, Hb⟩, ⟨%ft, Ht⟩, ⟨%fr, Hr⟩, Hbufs⟩, ⟨Hs0, Hs1, Hs2, Hs3, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Ho' := (Entails.of_eq (pts_oRowK (F := F) d L _).symm) $$ Ho
  ihave Hr' := (Entails.of_eq (show ((V d (cV L) (jV L)).loc cc0_scratch3 ↦{fullShare} fr : sProp 𝕄) = ((rV).view.loc (V d (cV L) (jV L)) ↦{fullShare} fr) from rfl)) $$ Hr
  sl_for (inv1 d L flp flt fct q O W) $$ [Hmw Hlp Hlt Hct Ha Hb Ht Hs0 Hs1 Hs2 HO]
  case region => intro c acc; exact trip1 d L flp flt fct q O W c acc
  · unfold inv1
    isplitr; · ipureintro; rfl
    isplitl [Hmw]; · iexact Hmw
    isplitl [Hlp]; · iexact Hlp
    isplitl [Hlt]; · iexact Hlt
    isplitl [Hct]; · iexact Hct
    isplitl [Ha]; · iexists _; iexact Ha
    isplitl [Hb]; · iexists _; iexact Hb
    isplitl [Ht]; · iexists _; iexact Ht
    isplitl [Hs0]; · iexact Hs0
    isplitl [Hs1]; · iexact Hs1
    isplitl [Hs2]; · iexact Hs2
    iexists _; isplitr
    swap; · iexact HO
    ipureintro; exact fun p hp => .inl hp
  iintro %acc HI
  obtain ⟨x, y⟩ := acc
  unfold inv1
  icases HI with ⟨%hacc, Hmw, Hlp, Hlt, Hct, ⟨%fa', Ha⟩, ⟨%fb', Hb⟩, ⟨%ft', Ht⟩, Hs0, Hs1, Hs2, %W', %hW', HO⟩
  sl_exec
  have hrow := row_written L flp flt fct fo (tile_body.sl.dma4 d L fr x y) (by
    unfold tile_body.sl.dma4 tile_body.sl.Hr'_2
    exact row_buffer L flp flt fct fr x y hacc)
  ihave Ho'' := (Entails.of_eq ((pointsTo_congr (q := fullShare) hrow).trans (pts_oRowK (F := F) d L (outV flp flt fct)))) $$ Ho'
  sl_step
  isplitl [Hlp Hlt Hct Ho'']
  · isplitl [Hlp Hlt Hct]
    · isplitl [Hlp]; · iexact Hlp
      isplitl [Hlt]; · iexact Hlt
      iexact Hct
    iexact Ho''
  isplitl [Ha Hb Ht Hr' Hbufs]
  · isplitl [Ha]; · iexists _; iexact Ha
    isplitl [Hb]; · iexists _; iexact Hb
    isplitl [Ht]; · iexists _; iexact Ht
    isplitl [Hr']; · iexists _; iexact Hr'
    iexact Hbufs
  isplitl [Hs0 Hs1 Hs2 Hs3 Hsems]
  · isplitl [Hs0]; · iexact Hs0
    isplitl [Hs1]; · iexact Hs1
    isplitl [Hs2]; · iexact Hs2
    isplitl [Hs3]; · iexact Hs3
    iexact Hsems
  iexists _; isplitr
  swap; · iexact HO
  ipureintro; intro p hp
  rcases Finset.mem_insert.mp hp with hp | hp; · exact .inr (hp ▸ rfl)
  exact hW' p hp

end Tile

end Cert.Proof.LaunchIdeal

end
-- ==== Proof.MainIdeal.lean ====
/-
  The idealized kernel's @main and its whole run. The TensorCore reshapes the arguments, hands the flat arrays and the
  output array to the 32 workers, takes them back with the output array at `outV`, and runs the rest of the host
  operations. Every weakly fair execution ends with each of the TensorCore's arrays at what those operations compute.
-/
module

public import proofs.«01_k».proof.Defs
public import proofs.«01_k».proof.Proof.LaunchIdeal
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Value
public import Idealize.ShloMosaic.Lib.VecWindow
public import Idealize.ShloMosaic.Lib.PointwiseCore
public import Idealize.ShloMosaic.Lib.Tactic
public import proofs.«01_k».proof.Proof.Gen.KernelIdeal
public import proofs.«01_k».proof.Proof.Gen.KernelIdeal.Skeleton

@[expose] public section

set_option maxRecDepth 16384

noncomputable section

namespace Cert.Proof.MainIdeal

open Cert.KernelIdeal Cert.KernelIdeal.Gen Cert.Fold Cert.Proof.TileIdeal Cert.Proof.LaunchIdeal

open Idealize.ShloMosaic hiding ix1
open Idealize.ShloMosaic.ValueIdx (ix1)
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (seq after held held_sub_split held_congr wp_seq tcRefs launchContents devRef_mem_tcRefs devRef_ne_of_ne after_of_writes_sub
  forall_writes_sub_of_map forall_fresh_of_map reshape_bufs_sub unary_bufs_sub nullary_bufs_sub binary_bufs_sub)
open Idealize.ShloMosaic.TcCoe

variable {F : FTy → Type}

local notation "𝕄" => MT nD τ sig (HIx 1) (Elt F) ℕ UU ℕ
local notation "lpV" => (Memref.whole Cert.KernelIdeal.main_v0_scv : Memref Cert.KernelIdeal.sig Kind.scVector Space.hbm Cert.KernelIdeal.S16777216 EltTy.f32)
local notation "ltV" => (Memref.whole Cert.KernelIdeal.main_v1_scv : Memref Cert.KernelIdeal.sig Kind.scVector Space.hbm Cert.KernelIdeal.S16777216 EltTy.f32)
local notation "ctV" => (Memref.whole Cert.KernelIdeal.main_v2_scv : Memref Cert.KernelIdeal.sig Kind.scVector Space.hbm Cert.KernelIdeal.S2097152 EltTy.i32)
local notation "oV" => (Memref.whole Cert.KernelIdeal.main_v3_scv : Memref Cert.KernelIdeal.sig Kind.scVector Space.hbm Cert.KernelIdeal.S32x32 EltTy.f32)
local notation "aV" => (Memref.whole Cert.KernelIdeal.cc0_scratch0 : Memref Cert.KernelIdeal.sig Kind.scVector Space.vmem Cert.KernelIdeal.S32768 EltTy.f32)
local notation "bV" => (Memref.whole Cert.KernelIdeal.cc0_scratch1 : Memref Cert.KernelIdeal.sig Kind.scVector Space.vmem Cert.KernelIdeal.S32768 EltTy.f32)
local notation "tV" => (Memref.whole Cert.KernelIdeal.cc0_scratch2 : Memref Cert.KernelIdeal.sig Kind.scVector Space.vmem Cert.KernelIdeal.S4096 EltTy.i32)
local notation "rV" => (Memref.whole Cert.KernelIdeal.cc0_scratch3 : Memref Cert.KernelIdeal.sig Kind.scVector Space.vmem Cert.KernelIdeal.S32 EltTy.f32)

variable [FloatOps F]
variable (m : (ℓ : Loc nD τ sig) → Buf (Elt F) ℓ) (ρ : Dev nD → PrngReg)

/-! ## The host operations before and after the call -/

/-- The host operations before the call. -/
abbrev ops1 : List (HloOp τ sig (Elt F)) :=
  [ StableHlo.reshape main_arg0 main_v0 (rfl : (.f32 : EltTy) = .f32) shapeCasts_S32x65536x8_S16777216,
    StableHlo.reshape main_arg1 main_v1 (rfl : (.f32 : EltTy) = .f32) shapeCasts_S32x65536x8_S16777216,
    StableHlo.reshape main_arg3 main_v2 (rfl : (.i32 : EltTy) = .i32) shapeCasts_S32x65536_S2097152 ]

/-- The host operations after the call. -/
abbrev ops2 : List (HloOp τ sig (Elt F)) :=
  [ StableHlo.unary main_v3 main_v4 ((extractStridedSlice S32x16 ![0, 0] · slices_S32x32_S32x16_0_0) : (⟨S32x32, .f32⟩ : BufTy).Contents (Elt F) → (⟨S32x16, .f32⟩ : BufTy).Contents (Elt F)),
    StableHlo.nullary main_cst (constant S_ .f32 0x00000000#32),
    StableHlo.binary main_v4 main_cst main_v5 ((fun x v => Host.reduceAdd x v reducesTo_S32x16_S_d0_1 h_S_) : (⟨S32x16, .f32⟩ : BufTy).Contents (Elt F) → (⟨S_, .f32⟩ : BufTy).Contents (Elt F) → (⟨S_, .f32⟩ : BufTy).Contents (Elt F)),
    StableHlo.unary main_v3 main_v6 ((extractStridedSlice S32x16 ![0, 16] · slices_S32x32_S32x16_0_16) : (⟨S32x32, .f32⟩ : BufTy).Contents (Elt F) → (⟨S32x16, .f32⟩ : BufTy).Contents (Elt F)),
    StableHlo.nullary main_cst_0 (constant S_ .f32 0x00000000#32),
    StableHlo.binary main_v6 main_cst_0 main_v7 ((fun x v => Host.reduceAdd x v reducesTo_S32x16_S_d0_1 h_S_) : (⟨S32x16, .f32⟩ : BufTy).Contents (Elt F) → (⟨S_, .f32⟩ : BufTy).Contents (Elt F) → (⟨S_, .f32⟩ : BufTy).Contents (Elt F)),
    StableHlo.binary main_v5 main_v7 main_v8 (Host.divf : (⟨S_, .f32⟩ : BufTy).Contents (Elt F) → (⟨S_, .f32⟩ : BufTy).Contents (Elt F) → (⟨S_, .f32⟩ : BufTy).Contents (Elt F)),
    StableHlo.nullary main_cst_1 (constant S_ .f32 0x3E4CCCCD#32),
    StableHlo.binary main_cst_1 main_v8 main_v9 (mulf : (⟨S_, .f32⟩ : BufTy).Contents (Elt F) → (⟨S_, .f32⟩ : BufTy).Contents (Elt F) → (⟨S_, .f32⟩ : BufTy).Contents (Elt F)) ]

/-- @main is the operations before the call, the call, and the operations after it. -/
theorem main_eq (d : Dev nD) :
    main (F := F) d = (seq ops1 >>= fun _ => (K (F := F)).run d 0 >>= fun _ => seq ops2 >>= fun _ => pure ⟨⟩) := rfl

theorem ops1_sub : ∀ op ∈ (ops1 : List (HloOp τ sig (Elt F))), op.bufs ⊆ tcRefs τ sig :=
  List.forall_iff_forall_mem.1 ⟨reshape_bufs_sub .., reshape_bufs_sub .., reshape_bufs_sub ..⟩
theorem ops2_sub : ∀ op ∈ (ops2 : List (HloOp τ sig (Elt F))), op.bufs ⊆ tcRefs τ sig :=
  List.forall_iff_forall_mem.1 ⟨unary_bufs_sub .., nullary_bufs_sub .., binary_bufs_sub .., unary_bufs_sub .., nullary_bufs_sub .., binary_bufs_sub ..,
    binary_bufs_sub .., nullary_bufs_sub .., binary_bufs_sub ..⟩
theorem ops1_fresh : ∀ op ∈ (ops1 : List (HloOp τ sig (Elt F))), op.fresh = ∅ :=
  List.forall_iff_forall_mem.1 (forall_fresh_of_map rfl)
theorem ops2_fresh : ∀ op ∈ (ops2 : List (HloOp τ sig (Elt F))), op.fresh = ∅ :=
  List.forall_iff_forall_mem.1 (forall_fresh_of_map rfl)

/-- A reference of the TensorCore's, as one of the device's buffers. -/
abbrev tcb (r : Ref sig .tc) : DevRef τ sig := Proc.devRef (τ := τ) .tc r

/-- The device's buffers when the call starts. -/
def V1 (d : Dev nD) : Valuation τ sig (Elt F) := after ops1 (launchContents m d)

/-- The flat arrays the workers read. -/
abbrev flp (d : Dev nD) : S16777216.Idx → F .f32 := V1 m d (tcb main_v0)
abbrev flt (d : Dev nD) : S16777216.Idx → F .f32 := V1 m d (tcb main_v1)
abbrev fct (d : Dev nD) : S2097152.Idx → BitVec 32 := V1 m d (tcb main_v2)
/-- The output array before the call. -/
abbrev fo (d : Dev nD) : Buf (Elt F) (oLoc d) := V1 m d (tcb main_v3)

/-- The device's buffers when the call is over: the output array at `outV`, the others as they were. -/
def V2 (d : Dev nD) : Valuation τ sig (Elt F) := Function.update (V1 m d) (tcb main_v3) (outV (flp m d) (flt m d) (fct m d))

/-- The device's buffers at the end. -/
def V3 (d : Dev nD) : Valuation τ sig (Elt F) := after ops2 (V2 m d)

/-! ## What the call hands to a worker and takes back -/

/-- The worker of SparseCore `c`'s subcore `i`. -/
def wix (c : Fin 2) (i : Fin 16) : Fin 32 := ⟨2 * i.val + c.val, by omega⟩

/-- What worker `w` is handed: its share of the flat arrays and its row of the output array. -/
def workerIn (d : Dev nD) (w : Fin 32) : sProp 𝕄 := iprop(inPts d (flp m d) (flt m d) (fct m d) (shr w) ∗ outPts d w (fo m d))
/-- What worker `w` hands back: the same, its row written. -/
def workerOut (d : Dev nD) (w : Fin 32) : sProp 𝕄 :=
  iprop(inPts d (flp m d) (flt m d) (fct m d) (shr w) ∗ outPts d w (outV (flp m d) (flt m d) (fct m d)))

instance workerIn_storable (d : Dev nD) (w : Fin 32) : BI.Storable (upEmb : UEmb _ 𝕄) (workerIn m d w) := by unfold workerIn; infer_instance
instance workerOut_storable (d : Dev nD) (w : Fin 32) : BI.Storable (upEmb : UEmb _ 𝕄) (workerOut m d w) := by unfold workerOut; infer_instance

def P : (K (F := F)).Pay (nD := nD) (Val := Elt F) (Name := ℕ) (U := UU) where
  st q d c := match q with | 0 => bigSep Finset.univ fun i : Fin 16 => workerIn m d (wix c i)
  dn q d c := match q with | 0 => bigSep Finset.univ fun i : Fin 16 => workerOut m d (wix c i)
  go q d c i := match q with | 0 => workerIn m d (wix c i)
  td q d c i := match q with | 0 => workerOut m d (wix c i)
  x := fun _ _ => iprop(emp)

instance P_storable : (P (F := F) m).IsStorable where
  st q d c := match q with
    | 0 => (inferInstance : BI.Storable (upEmb : UEmb _ 𝕄) (bigSep Finset.univ fun i : Fin 16 => workerIn m d (wix c i)))
  dn q d c := match q with
    | 0 => (inferInstance : BI.Storable (upEmb : UEmb _ 𝕄) (bigSep Finset.univ fun i : Fin 16 => workerOut m d (wix c i)))
  go q d c i := match q with
    | 0 => (inferInstance : BI.Storable (upEmb : UEmb _ 𝕄) (workerIn m d (wix c i)))
  td q d c i := match q with
    | 0 => (inferInstance : BI.Storable (upEmb : UEmb _ 𝕄) (workerOut m d (wix c i)))

/-! ## The workers' obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_body (coordsV c s)
          lpV (Memref.isWhole_whole _) ltV (Memref.isWhole_whole _) ctV (Memref.isWhole_whole _) oV (Memref.isWhole_whole _)
          aV (Memref.isWhole_whole _) bV (Memref.isWhole_whole _) tV (Memref.isWhole_whole _) rV (Memref.isWhole_whole _)
          cc0_scoped0 cc0_scoped1 cc0_scoped2 cc0_scoped3) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) (flp m d) (flt m d) (fct m d) facts (shr (wix c i)) (fo m d) O W hO).trans
    (wp_mono frame _ _ fun _ => obl_post (q := 0))

theorem vecSplit : (K (F := F)).VecSplit' (P m) 0 := by
  intro d c
  show (bigSep Finset.univ fun i : Fin 16 => workerIn m d (wix c i)) ⊢ |={Set.univ}=> iprop(
      (bigSep Finset.univ fun i : Fin 16 => workerIn m d (wix c i))
      ∗ ((bigSep Finset.univ fun i : Fin 16 => workerOut m d (wix c i)) -∗ (bigSep Finset.univ fun i : Fin 16 => workerOut m d (wix c i))))
  iintro H; imodintro
  isplitl [H]; · iexact H
  iintro H; iexact H

/-! ## The arrays split among the workers and joined again -/

/-- The 2 × 16 workers, numbered. -/
def workers : Fin 2 × Fin 16 ≃ Fin 32 where
  toFun x := wix x.1 x.2
  invFun w := (⟨w.val % 2, by omega⟩, ⟨w.val / 2, by omega⟩)
  left_inv x := Prod.ext (Fin.ext (by show (2 * x.2.val + x.1.val) % 2 = x.1.val; omega)) (Fin.ext (by show (2 * x.2.val + x.1.val) / 2 = x.2.val; omega))
  right_inv w := Fin.ext (by show 2 * (w.val / 2) + w.val % 2 = w.val; omega)

theorem bigSep_workers (Φ : Fin 32 → sProp 𝕄) :
    (bigSep Finset.univ fun c : Fin 2 => bigSep Finset.univ fun i : Fin 16 => Φ (wix c i)) = bigSep Finset.univ Φ := by
  rw [BI.bigSep_univ_equiv workers Φ, BI.bigSep_univ_prod]; rfl

theorem oRowSet_eq (i : Fin 32) : oRowSet i = (orow i).set := by
  show ((View.whole (main_v3_scv : Ref sig .scVector)).slice (orow i)).set = _
  rw [View.set_slice]; exact Finset.map_refl
theorem orows_disjoint : ∀ i ∈ (Finset.univ : Finset (Fin 32)), ∀ j ∈ (Finset.univ : Finset (Fin 32)), i ≠ j → Disjoint (oRowSet i) (oRowSet j) :=
  fun i _ j _ h => by rw [oRowSet_eq, oRowSet_eq]; exact Rect.part_disjoint odiv h
theorem orows_cover : (Finset.univ : Finset (Fin 32)).biUnion oRowSet = Finset.univ :=
  (Finset.biUnion_congr rfl fun i _ => oRowSet_eq i).trans (Rect.biUnion_part odiv)
theorem oPts_rows (d : Dev nD) (f : Buf (Elt F) (oLoc d)) :
    (oLoc d ↦{fullShare} f : sProp 𝕄) = bigSep Finset.univ fun i : Fin 32 => outPts d i f := by
  rw [← pointsTo_biUnion Finset.univ (ℓ := oLoc d) oRowSet orows_disjoint, orows_cover]; try rfl

/-- An array whole is the 32 workers' shares of it. -/
theorem pts_shares {ℓ : Loc nD τ sig} (f : Buf (Elt F) ℓ) : (ℓ ↦{fullShare} f : sProp 𝕄) = bigSep Finset.univ fun w : Fin 32 => ℓ ↦{shr w} f :=
  pointsTo_piecesOf Finset.univ f (by decide) fullShare

/-- The four arrays whole are the 32 workers' shares and rows. -/
theorem arrays_split (d : Dev nD) (a b : S16777216.Idx → F .f32) (c : S2097152.Idx → BitVec 32) (f : Buf (Elt F) (oLoc d)) :
    iprop((lpLoc d ↦{fullShare} a) ∗ (ltLoc d ↦{fullShare} b) ∗ (ctLoc d ↦{fullShare} c) ∗ (oLoc d ↦{fullShare} f))
      = (bigSep Finset.univ fun w : Fin 32 => iprop(inPts d a b c (shr w) ∗ outPts d w f) : sProp 𝕄) := by
  rw [bigSep_sep', bigSep_sep', bigSep_sep', pts_shares (ℓ := lpLoc d) a, pts_shares (ℓ := ltLoc d) b, pts_shares (ℓ := ctLoc d) c, oPts_rows]
  have assoc (X Y Z : sProp 𝕄) : iprop((X ∗ Y) ∗ Z) = iprop(X ∗ Y ∗ Z) := BI.equiv_iff.mp ⟨BI.sep_assoc, BI.sep_assoc'⟩
  rw [assoc, assoc]

theorem st0_eq (d : Dev nD) : (bigSep Finset.univ fun c : Fin ((K (F := F)).nCore 0) => (P m).st 0 d c)
    = iprop((lpLoc d ↦{fullShare} flp m d) ∗ (ltLoc d ↦{fullShare} flt m d) ∗ (ctLoc d ↦{fullShare} fct m d) ∗ (oLoc d ↦{fullShare} fo m d)) := by
  rw [arrays_split]; exact bigSep_workers (fun w => workerIn m d w)
theorem dn0_eq (d : Dev nD) : (bigSep Finset.univ fun c : Fin ((K (F := F)).nCore 0) => (P m).dn 0 d c)
    = iprop((lpLoc d ↦{fullShare} flp m d) ∗ (ltLoc d ↦{fullShare} flt m d) ∗ (ctLoc d ↦{fullShare} fct m d)
        ∗ (oLoc d ↦{fullShare} outV (flp m d) (flt m d) (fct m d))) := by
  rw [arrays_split]; exact bigSep_workers (fun w => workerOut m d w)

/-! ## The launch's ghost state -/

def u₀ : UU := (initOf (K (F := F)).hsCells (K (F := F)).hsToks, 1)

theorem bigSep_emp' {I : Type} (s : Finset I) : (bigSep s fun _ => iprop(emp)) = (iprop(emp) : sProp 𝕄) := BI.bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

/-- The launch hands the TensorCore all its arrays. -/
theorem unscoped_held (d : Dev nD) :
    (unscopedBufs d (fun b => m ((SparseCore.T d).loc b)) : sProp 𝕄) = held (d.tc : Thread nD τ) (tcRefs τ sig) (launchContents m d) := by
  unfold unscopedBufs held tcRefs
  rw [show (Finset.univ.filter fun b : Ref sig .tc => ¬ b.isScoped) = Finset.univ by decide, BI.bigSep_map]; rfl

/-- The four arrays of the call, among the TensorCore's. -/
abbrev S4 : Finset (DevRef τ sig) := {tcb main_v0, tcb main_v1, tcb main_v2, tcb main_v3}

theorem S4_sub : S4 ⊆ tcRefs τ sig := by
  intro b hb
  simp only [S4, Finset.mem_insert, Finset.mem_singleton] at hb
  rcases hb with rfl | rfl | rfl | rfl <;> exact devRef_mem_tcRefs _

theorem held_S4 (d : Dev nD) (W : Valuation τ sig (Elt F)) :
    (held (d.tc : Thread nD τ) S4 W : sProp 𝕄) = iprop((lpLoc d ↦{fullShare} W (tcb main_v0)) ∗ (ltLoc d ↦{fullShare} W (tcb main_v1))
      ∗ (ctLoc d ↦{fullShare} W (tcb main_v2)) ∗ (oLoc d ↦{fullShare} W (tcb main_v3))) := by
  unfold held S4
  rw [SparseCore.bigSep_insert' (by decide), SparseCore.bigSep_insert' (by decide), SparseCore.bigSep_insert' (by decide), bigSep_singleton]

theorem V2_out (d : Dev nD) : V2 m d (tcb main_v3) = outV (flp m d) (flt m d) (fct m d) := Function.update_self _ _ _
theorem V2_ne (d : Dev nD) (b : DevRef τ sig) (h : b ≠ tcb main_v3) : V2 m d b = V1 m d b := Function.update_of_ne h _ _

/-- What the TensorCore ends with: all its arrays. -/
abbrev FIN (d : Dev nD) : sProp 𝕄 := held (d.tc : Thread nD τ) (tcRefs τ sig) (V3 m d)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held, main_eq]
  iintro ⟨#Hctx, Hst, ⟨Hb, Hheld, Hts, -⟩, -⟩
  iapply (wp_seq 𝒱 none Set.univ d (tcRefs τ sig) _ ops1 ops1_sub ops1_fresh (launchContents m d)) $$ [Hb Hheld]
  · isplitl [Hb]; · iexact Hb
    iexact Hheld
  iintro ⟨Hb, Hheld⟩
  ihave Hh := (Entails.of_eq (show (held (d.tc : Thread nD τ) (tcRefs τ sig) (after ops1 (launchContents m d)) : sProp 𝕄)
      = iprop(((lpLoc d ↦{fullShare} flp m d) ∗ (ltLoc d ↦{fullShare} flt m d) ∗ (ctLoc d ↦{fullShare} fct m d) ∗ (oLoc d ↦{fullShare} fo m d))
        ∗ held (d.tc : Thread nD τ) (tcRefs τ sig \ S4) (V1 m d)) by
    rw [held_sub_split _ S4_sub, held_S4]; rfl)) $$ Hheld
  icases Hh with ⟨Hin, Hrest⟩
  rw [wp_bind]
  iapply ((K (F := F)).wp_run (D (F := F)) 𝒱 (EH := EH) (P := P m) κ d 0) $$ [Hst Hin Hb Hrest Hts]
  isplitr; · iexact Hctx
  isplitl [Hst]; · iexact Hst
  isplitl [Hin]
  · rw [st0_eq]; iexact Hin
  iintro ⟨Hst, Hdn⟩
  ihave Hdn' := (Entails.of_eq (dn0_eq m d)) $$ Hdn
  ihave Hheld := (Entails.of_eq (show iprop(((lpLoc d ↦{fullShare} flp m d) ∗ (ltLoc d ↦{fullShare} flt m d) ∗ (ctLoc d ↦{fullShare} fct m d)
        ∗ (oLoc d ↦{fullShare} outV (flp m d) (flt m d) (fct m d))) ∗ held (d.tc : Thread nD τ) (tcRefs τ sig \ S4) (V1 m d))
      = (held (d.tc : Thread nD τ) (tcRefs τ sig) (V2 m d) : sProp 𝕄) by
    rw [held_sub_split _ S4_sub, held_S4, V2_out, V2_ne m d _ (by decide), V2_ne m d _ (by decide), V2_ne m d _ (by decide),
      held_congr (V := V2 m d) (V' := V1 m d) _ fun b hb => V2_ne m d b fun e => (Finset.mem_sdiff.mp hb).2 (by rw [e]; decide)])) $$ [Hdn' Hrest]
  · isplitl [Hdn']; · iexact Hdn'
    iexact Hrest
  iapply (wp_seq 𝒱 none Set.univ d (tcRefs τ sig) _ ops2 ops2_sub ops2_fresh (V2 m d)) $$ [Hb Hheld]
  · isplitl [Hb]; · iexact Hb
    iexact Hheld
  iintro ⟨Hb, Hheld⟩
  rw [wp_pure]; imodintro
  isplitl [Hst]; · iexact Hst
  isplitl [Hheld]; · iexact Hheld
  isplitl [Hb]; · iexact Hb
  iexact Hts

/-! ## The whole run -/

def fq (d : Dev nD) (s' : Phys nD τ sig (Elt F)) : Prop := ∀ b : Ref sig .tc, s'.mem.mem ((d.tc : Thread nD τ).loc b) = V3 m d (tcb b)

theorem hfin (d : Dev nD) (s' : Phys nD τ sig (Elt F)) : iprop(FIN m d ∗ SI s') ⊢ (⌜fq m d s'⌝ : sProp 𝕄) := by
  unfold FIN held
  iintro ⟨H, HSI⟩
  ihave %h := (SI_pointsTo_bufs_agree (qs := fun _ => fullShare) (tcRefs τ sig)) $$ [HSI H]
  · isplitl [HSI]; · iexact HSI
    iexact H
  ipureintro
  exact fun b => h _ (devRef_mem_tcRefs b)

def QC : PUnit × MemSt nD τ sig (Elt F) → Prop := fun r =>
  (∀ (c : Dev nD) (b : Ref sig .tc), r.2.mem ((c.tc : Thread nD τ).loc b) = V3 m c (tcb b)) ∧ r.2.sem = fun _ => 0

/-- Every weakly fair execution ends, each of the TensorCore's arrays at what the program computes and every semaphore
    counter at zero. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

/-! ## The arguments at the end, and the result -/

/-- The host operations leave the arguments alone. -/
theorem V3_arg (d : Dev nD) (r : Ref sig .tc) (h : r ∉ [main_v0, main_v1, main_v2, main_v3, main_v4, main_cst, main_v5, main_v6, main_cst_0, main_v7, main_v8, main_cst_1, main_v9]) :
    V3 m d (tcb r) = m ((d.tc : Thread nD τ).loc r) := by
  have h2 : r ∉ [main_v4, main_cst, main_v5, main_v6, main_cst_0, main_v7, main_v8, main_cst_1, main_v9] := fun e => h (by simp only [List.mem_cons] at e ⊢; tauto)
  have h1 : r ∉ [main_v0, main_v1, main_v2] := fun e => h (by simp only [List.mem_cons, List.not_mem_nil, or_false] at e ⊢; tauto)
  unfold V3
  rw [after_of_writes_sub ops2 _ (forall_writes_sub_of_map rfl) h2, V2_ne m d _ (devRef_ne_of_ne fun e => h (by rw [e]; simp only [List.mem_cons]; tauto))]
  unfold V1
  rw [after_of_writes_sub ops1 _ (forall_writes_sub_of_map rfl) h1]

theorem V1_v0 (d : Dev nD) : flp m d = fun i => shapeCast S16777216 (m ((d.tc : Thread nD τ).loc main_arg0)) shapeCasts_S32x65536x8_S16777216 i := by
  unfold flp V1; after_results; rfl
theorem V1_v1 (d : Dev nD) : flt m d = fun i => shapeCast S16777216 (m ((d.tc : Thread nD τ).loc main_arg1)) shapeCasts_S32x65536x8_S16777216 i := by
  unfold flt V1; after_results; rfl
theorem V1_v2 (d : Dev nD) : fct m d = fun i => shapeCast S2097152 (m ((d.tc : Thread nD τ).loc main_arg3)) shapeCasts_S32x65536_S2097152 i := by
  unfold fct V1; after_results; rfl

/-- The result: a fifth, times the sum of the rows' left halves over the sum of their right halves. -/
theorem V3_v9 (d : Dev nD) : V3 m d (tcb main_v9)
    = mulf (constant S_ .f32 0x3E4CCCCD#32) (Host.divf
        (Host.reduceAdd (extractStridedSlice S32x16 ![0, 0] (outV (flp m d) (flt m d) (fct m d)) slices_S32x32_S32x16_0_0) (constant S_ .f32 0x00000000#32) reducesTo_S32x16_S_d0_1 h_S_)
        (Host.reduceAdd (extractStridedSlice S32x16 ![0, 16] (outV (flp m d) (flt m d) (fct m d)) slices_S32x32_S32x16_0_16) (constant S_ .f32 0x00000000#32) reducesTo_S32x16_S_d0_1 h_S_)) := by
  unfold V3; after_results; rw [V2_out]

end Cert.Proof.MainIdeal

end
-- ==== Proof.Total.lean ====
/-
  The kernel's folds read over the extended reals, as sums. The 32 workers' lanes together visit every element once and
  every label once, so the lanes' sums add up to the sum of the terms of all elements, and the lanes' counts to the number
  of positive labels.
-/
module

public import proofs.«01_k».proof.Proof.Fold
public import Idealize.ShloMosaic.Lib.ValueIdx
public import Idealize.ShloMosaic.Lib.ValueIdxRank1
public import Idealize.ShloMosaic.Lib.IdealHost
public import Idealize.ShloMosaic.Lib.Affine
public import Idealize.ShloMosaic.PureOps.Ideal.Laws

@[expose] public section

noncomputable section

namespace Cert.Total

open Idealize.ShloMosaic Idealize.ShloMosaic.ValueIdx Cert.Fold
open Finset (range)

/-! ## Sums over consecutive blocks -/

section
variable {M : Type} [AddCommMonoid M]

/-- A sum block by block is the sum over the whole range. -/
theorem sum_blocks (f : ℕ → M) (A B : ℕ) : ∑ a ∈ range A, ∑ b ∈ range B, f (a * B + b) = ∑ e ∈ range (A * B), f e := by
  induction A with
  | zero => simp
  | succ A ih => rw [Finset.sum_range_succ, ih, Nat.succ_mul, Finset.sum_range_add]

/-- A worker's sixteen lanes, each walking every sixteenth position of the worker's block, visit every position once. -/
theorem sum_lanes (f : ℕ → M) (W K T : ℕ) (hT : T = K * 16) :
    ∑ w ∈ range W, ∑ l ∈ range 16, ∑ n ∈ range K, f (w * T + 16 * n + l) = ∑ e ∈ range (W * T), f e := by
  subst hT
  rw [← sum_blocks f W (K * 16)]
  refine Finset.sum_congr rfl fun w _ => ?_
  rw [Finset.sum_comm, ← sum_blocks (fun e => f (w * (K * 16) + e)) K 16]
  exact Finset.sum_congr rfl fun n _ => Finset.sum_congr rfl fun l _ => congrArg f (by ring)

end

/-! ## The terms -/

/-- A label is positive. -/
abbrev Pos (t : BitVec 32) : Prop := 0 < t.toInt

theorem sgt_eq (t : BitVec 32) : IntOp.cmpi .sgt t 0#32 = if Pos t then 1#1 else 0#1 := by
  show BitVec.ofBool (decide (0 < t.toInt)) = _
  by_cases h : Pos t
  · rw [if_pos h, decide_eq_true h]; rfl
  · rw [if_neg h, decide_eq_false h]; rfl

/-- A label counts one where it is positive and nothing elsewhere. -/
theorem unit_eq (t : BitVec 32) : unit (F := Ideal) t = if Pos t then 1 else 0 := by
  unfold unit zeroF oneF
  rw [sgt_eq]
  split <;> simp [Scalar.select]

theorem half_eq : halfF (F := Ideal) = ((1 / 2 : ℝ) : EReal) := by
  simp [Ideal.ofBits, Ideal.ieee, -EReal.coe_mul]; norm_num

/-- Smooth L1 of zero is zero. -/
theorem smooth_zero : smooth (F := Ideal) (zeroF (F := Ideal)) = 0 := by
  have h0 : zeroF (F := Ideal) = 0 := Ideal.ofBits_zero_f32
  have h1 : oneF (F := Ideal) = 1 := Ideal.ofBits_one_f32
  have hc : FloatOps.cmpf (F := Ideal) (φ := .f32) .olt (FloatOps.absf (F := Ideal) (φ := .f32) (0 : EReal)) (1 : EReal) = 1#1 := by
    show BitVec.ofBool (decide (max (0 : EReal) (-0) < 1)) = 1#1
    simp
  unfold smooth
  rw [h0, h1, hc]
  exact mul_zero (_ : EReal)

/-- An element's term is smooth L1 of the difference where the label is positive and zero elsewhere. -/
theorem term_eq (a b : EReal) (t : BitVec 32) : term (F := Ideal) a b t = if Pos t then smooth (F := Ideal) (a - b) else 0 := by
  unfold term
  rw [sgt_eq]
  split
  · rfl
  · exact smooth_zero

section
variable (lp lt : ℕ → EReal) (ct : ℕ → BitVec 32)

theorem accN_eq (w l n : ℕ) : accN (F := Ideal) lp lt ct w l n
    = ∑ k ∈ range n, termAt (F := Ideal) lp lt ct (w * 524288 + 16 * k + l) := by
  induction n with
  | zero => exact Ideal.ofBits_zero_f32
  | succ n ih => rw [Finset.sum_range_succ, ← ih]; rfl

theorem cntN_eq (w l n : ℕ) : cntN (F := Ideal) ct w l n = ∑ k ∈ range n, unit (F := Ideal) (ct (w * 65536 + 16 * k + l)) := by
  induction n with
  | zero => exact Ideal.ofBits_zero_f32
  | succ n ih => rw [Finset.sum_range_succ, ← ih]; rfl

/-- The sum of the terms of all elements, and the number of positive labels. -/
def sumAll : EReal := ∑ e ∈ range 16777216, termAt (F := Ideal) lp lt ct e
def cntAll : EReal := ∑ e ∈ range 2097152, unit (F := Ideal) (ct e)

/-- The left halves of the rows add up to the sum of all terms. -/
theorem rows_sum : ∑ w : Fin 32, ∑ l : Fin 16, rowAt (F := Ideal) lp lt ct w.val l.val = sumAll lp lt ct := by
  rw [sumAll, ← sum_lanes (termAt (F := Ideal) lp lt ct) 32 32768 524288 rfl, Finset.sum_range]
  refine Finset.sum_congr rfl fun w _ => ?_
  rw [Finset.sum_range]
  refine Finset.sum_congr rfl fun l _ => ?_
  rw [rowAt, if_pos l.isLt, accN_eq]

/-- The right halves of the rows add up to the number of positive labels. -/
theorem rows_cnt : ∑ w : Fin 32, ∑ l : Fin 16, rowAt (F := Ideal) lp lt ct w.val (16 + l.val) = cntAll ct := by
  rw [cntAll, ← sum_lanes (fun e => unit (F := Ideal) (ct e)) 32 4096 65536 rfl, Finset.sum_range]
  refine Finset.sum_congr rfl fun w _ => ?_
  rw [Finset.sum_range]
  refine Finset.sum_congr rfl fun l _ => ?_
  rw [rowAt, if_neg (by omega), Nat.add_sub_cancel_left, cntN_eq]

/-- Where no label is positive every term is zero. -/
theorem sumAll_eq_zero (h : cntAll ct = 0) : sumAll lp lt ct = 0 := by
  have h0 : ∀ e ∈ range 2097152, unit (F := Ideal) (ct e) = 0 :=
    (Finset.sum_eq_zero_iff_of_nonneg fun e _ => by rw [unit_eq]; split <;> simp).1 h
  refine Finset.sum_eq_zero fun e he => ?_
  have h1 := h0 (e / 8) (by rw [Finset.mem_range] at he ⊢; omega)
  rw [unit_eq] at h1
  have h2 : ¬ Pos (ct (e / 8)) := fun hp => by rw [if_pos hp] at h1; exact one_ne_zero h1
  rw [termAt, term_eq, if_neg h2]

end

/-- The fifth the first quotient is scaled by is positive. -/
theorem fifth_pos : 0 < Ideal.ofBits .f32 0x3E4CCCCD#32 := by
  simp [Ideal.ofBits, Ideal.ieee, -EReal.coe_mul]

/-- Adding a zero quotient by the count changes nothing: where the count is zero both sides are the bottom element. -/
theorem add_zero_div (k s n : EReal) (hk : 0 < k) (h : n = 0 → s = 0) :
    k * Ideal.div s n + Ideal.div 0 n = k * Ideal.div s n := by
  by_cases hn : n = 0
  · rw [h hn, hn]
    have h1 : Ideal.div (0 : EReal) 0 = ⊥ := by simp [Ideal.div]
    rw [h1, EReal.mul_bot_of_pos hk, EReal.bot_add]
  · have h1 : Ideal.div 0 n = 0 := by simp [Ideal.div, hn]
    rw [h1, add_zero]

end Cert.Total

end
-- ==== Proof.Value.lean ====
/-
  The idealized kernel's result over the extended reals: a fifth, times the sum of all elements' terms over the number of
  positive labels, in terms of the reshaped arguments.
-/
module

public import proofs.«01_k».proof.Proof.MainIdeal
public import proofs.«01_k».proof.Proof.Total

@[expose] public section

noncomputable section

namespace Cert.Proof.Value

open Cert.KernelIdeal Cert.KernelIdeal.Gen
open Idealize.ShloMosaic hiding ix1
open Idealize.ShloMosaic.ValueIdx (ix1)
open Cert.Fold Cert.Total Cert.Proof.TileIdeal Cert.Proof.LaunchIdeal Cert.Proof.MainIdeal

/-- The sum of a host reduction of all of a matrix from zero, coordinate by coordinate. -/
theorem reduceAdd_all {n0 n1 : ℕ} {axes : List (Fin (⟨2, ![n0, n1]⟩ : Shape).rank)} (v : FVec Ideal ⟨2, ![n0, n1]⟩ .f32)
    (h : (⟨2, ![n0, n1]⟩ : Shape).ReducesTo axes S_) (hu : 0 < S_.numel) (j : S_.Idx) :
    Host.reduceAdd v (constant S_ .f32 0x00000000#32) h hu j = ∑ a : Fin n0, ∑ b : Fin n1, v (ValueIdx.ix2 a b) := by
  show Ideal.hostReduceAdd h v (Ideal.ofBits .f32 0x00000000#32) j = _
  rw [Ideal.hostReduceAdd_total h (fun b => b.elim0), ValueIdx.sum_idx2]
  exact (congrArg (· + _) Ideal.ofBits_zero_f32).trans (zero_add _)

section
variable (p t : FVec Ideal S16777216 .f32) (c : IVec S2097152 32)

theorem left_half (h : S32x32.Slices ![0, 0] S32x16) (a : Fin 32) (b : Fin 16) :
    extractStridedSlice S32x16 ![0, 0] (outV (F := Ideal) p t c) h (ValueIdx.ix2 a b)
      = rowAt (F := Ideal) (lpAt p) (ltAt t) (ctAt c) a.val b.val :=
  congrArg₂ (rowAt (F := Ideal) (lpAt p) (ltAt t) (ctAt c)) (Nat.zero_add _) (Nat.zero_add _)

theorem right_half (h : S32x32.Slices ![0, 16] S32x16) (a : Fin 32) (b : Fin 16) :
    extractStridedSlice S32x16 ![0, 16] (outV (F := Ideal) p t c) h (ValueIdx.ix2 a b)
      = rowAt (F := Ideal) (lpAt p) (ltAt t) (ctAt c) a.val (16 + b.val) :=
  congrArg₂ (rowAt (F := Ideal) (lpAt p) (ltAt t) (ctAt c)) (Nat.zero_add _) rfl

end

/-- A scaled quotient of two numbers, read at its one index. -/
theorem quotient (k : BitVec 32) (A B : FVec Ideal S_ .f32) (j : S_.Idx) (s n : EReal) (hA : A j = s) (hB : B j = n) :
    mulf (constant S_ .f32 k) (Host.divf A B) j = Ideal.ofBits .f32 k * Ideal.div s n := by
  subst hA hB; rfl

/-- The result of the idealized kernel. -/
theorem result (m : (ℓ : Loc nD τ sig) → Buf (Elt Ideal) ℓ) (d : Dev nD) :
    V3 m d (tcb main_v9) = fun _ => Ideal.ofBits .f32 0x3E4CCCCD#32
      * Ideal.div (sumAll (lpAt (flp m d)) (ltAt (flt m d)) (ctAt (fct m d))) (cntAll (ctAt (fct m d))) := by
  rw [V3_v9]
  funext j
  refine quotient _ _ _ j _ _ ?_ ?_
  · rw [reduceAdd_all, ← rows_sum]
    exact Finset.sum_congr rfl fun a _ => Finset.sum_congr rfl fun b _ => left_half _ _ _ _ a b
  · rw [reduceAdd_all, ← rows_cnt]
    exact Finset.sum_congr rfl fun a _ => Finset.sum_congr rfl fun b _ => right_half _ _ _ _ a b

end Cert.Proof.Value

end
-- ==== Proof.CrossEntropy.lean ====
/-
  The reference's cross entropy. There is one class, so an anchor's logsumexp is its one logit and the logit it picks is
  the same one: where the logits are finite the difference is zero, and the class loss is zero whatever anchors are
  selected.
-/
module

public import proofs.«01_k».proof.Proof.Gen.ReferenceIdeal
public import proofs.«01_k».proof.Proof.Total
public import Idealize.ShloMosaic.Lib.ReduceAll
public import Idealize.ShloMosaic.Lib.PointwiseCore

@[expose] public section

noncomputable section

namespace Cert.Proof.CrossEntropy

open Cert.ReferenceIdeal Cert.ReferenceIdeal.Gen
open Idealize.ShloMosaic hiding ix1 ix2
open Idealize.ShloMosaic.ValueIdx (ix1 ix2)

/-! ## The reference's arrays -/

/-- The labels, clipped to zero and one. -/
def label (t : IVec S32x65536 32) : IVec S32x65536 32 :=
  minsi (broadcastInDim S32x65536 ![] bcast_S_S32x65536 (id (constantI S_ 32 1#32)))
    (maxsi (broadcastInDim S32x65536 ![] bcast_S_S32x65536 (id (constantI S_ 32 0#32))) t)

/-- Which labels are positive. -/
def positive (t : IVec S32x65536 32) : IVec S32x65536 1 :=
  cmpi .sgt (label t) (broadcastInDim S32x65536 ![] bcast_S_S32x65536 (constantI S_ 32 0#32))

/-- The logits, one row an anchor. -/
def logits (x : FVec Ideal S32x65536x1 .f32) : FVec Ideal S2097152x1 .f32 := shapeCast _ x shapeCasts_S32x65536x1_S2097152x1

/-- A row's maximum, kept as a column. -/
def rowMax (x : FVec Ideal S2097152x1 .f32) : FVec Ideal S2097152x1 .f32 :=
  broadcastInDim S2097152x1 ![0] bcast_S2097152_S2097152x1_0
    (Host.reduce FloatOps.maximumf x (constant S_ .f32 0xFF800000#32) reducesTo_S2097152x1_S2097152_d1 h_S_)

/-- The row maximum where it is finite, zero elsewhere. -/
def shift (x : FVec Ideal S2097152x1 .f32) : FVec Ideal S2097152x1 .f32 :=
  select (cmpf .olt (Host.absf (rowMax x)) (broadcastInDim S2097152x1 ![] bcast_S_S2097152x1 (constant S_ .f32 0x7F800000#32)))
    (rowMax x) (broadcastInDim S2097152x1 ![] bcast_S_S2097152x1 (id (constant S_ .f32 0x00000000#32)))

/-- The logsumexp of every row. -/
def lse (x : FVec Ideal S2097152x1 .f32) : FVec Ideal S2097152 .f32 :=
  addf (Host.log (Host.reduceAdd (Host.exp (subf x (shift x))) (constant S_ .f32 0x00000000#32) reducesTo_S2097152x1_S2097152_d1 h_S_))
    (shapeCast _ (shift x) shapeCasts_S2097152x1_S2097152)

/-- The class each anchor picks, clipped to the one class there is. -/
def clipped (t : IVec S32x65536 32) : IVec S2097152x1 32 :=
  broadcastInDim S2097152x1 ![0] bcast_S2097152_S2097152x1_0
    (minsi (broadcastInDim S2097152 ![] bcast_S_S2097152 (id (constantI S_ 32 0#32)))
      (maxsi (broadcastInDim S2097152 ![] bcast_S_S2097152 (id (constantI S_ 32 0#32))) (shapeCast _ (label t) shapeCasts_S32x65536_S2097152)))

/-- The same as a start index, counted from the end where it is negative. -/
def start (c : IVec S2097152x1 32) : IVec S2097152x1x1 32 :=
  shapeCast _ (select (cmpi .slt c (broadcastInDim S2097152x1 ![] bcast_S_S2097152x1 (constantI S_ 32 0#32)))
    (addi c (broadcastInDim S2097152x1 ![] bcast_S_S2097152x1 (constantI S_ 32 1#32))) c) shapeCasts_S2097152x1_S2097152x1x1

/-- Which start indices are in range. -/
def inRange (i : IVec S2097152x1x1 32) : IVec S2097152x1 1 :=
  Host.reduce IntOp.andi (andi (cmpi .sge i (broadcastInDim S2097152x1x1 ![] bcast_S_S2097152x1x1 (constantI S_ 32 0#32)))
      (cmpi .sle i (broadcastInDim S2097152x1x1 ![0, 1, 2] bcast_S1x1x1_S2097152x1x1_0_1_2
        (broadcastInDim S1x1x1 ![2] bcast_S1_S1x1x1_2 (constantI S1 32 0#32)))))
    (constantI S_ 1 1#1) reducesTo_S2097152x1x1_S2097152x1_d2 h_S_

/-- The logit each anchor picks. -/
def picked (x : FVec Ideal S2097152x1 .f32) (i : IVec S2097152x1x1 32) : FVec Ideal S2097152 .f32 :=
  shapeCast _ (select (inRange i) (Host.gather gather_S2097152x1_S2097152x1x1_S2097152x1_n_1_0_0_1_2_11 x i)
    (broadcastInDim S2097152x1 ![] bcast_S_S2097152x1 (constant S_ .f32 0x7FC00000#32))) shapeCasts_S2097152x1_S2097152

/-- Each anchor's cross entropy. -/
def entropy (x : FVec Ideal S32x65536x1 .f32) (t : IVec S32x65536 32) : FVec Ideal S32x65536 .f32 :=
  shapeCast _ (subf (lse (logits x)) (picked (logits x) (start (clipped t)))) shapeCasts_S2097152_S32x65536

/-! ## Their values -/

/-- Clipping a word to zero from both sides gives zero. -/
theorem clip_zero (t : BitVec 32) : IntOp.minsi 0#32 (IntOp.maxsi 0#32 t) = 0#32 := by
  unfold IntOp.minsi IntOp.maxsi
  have h0 : (0#32).toInt = 0 := rfl
  split
  · exact ite_self _
  · next h =>
    split
    · rfl
    · next h' =>
      simp only [BitVec.slt_iff_toInt_lt, h0] at h h'
      exact BitVec.eq_of_toInt_eq (by omega)

theorem clipped_eq (t : IVec S32x65536 32) : clipped t = fun _ => 0#32 := funext fun _ => clip_zero _

theorem start_eq (t : IVec S32x65536 32) : start (clipped t) = fun _ => 0#32 := by
  rw [clipped_eq]
  funext j
  show Scalar.select (IntOp.cmpi .slt 0#32 0#32) (IntOp.addi 0#32 1#32) 0#32 = 0#32
  rfl

theorem inRange_eq (t : IVec S32x65536 32) (j : S2097152x1.Idx) : inRange (start (clipped t)) j = 1#1 := by
  rw [start_eq]
  unfold inRange
  apply Host.reduce_andi_one
  · rfl
  intro i
  show IntOp.andi (IntOp.cmpi .sge 0#32 0#32) (IntOp.cmpi .sle 0#32 0#32) = 1#1
  rfl

/-- The gather reads the anchor's own row, which has one column. -/
theorem gather_eq (x : FVec Ideal S2097152x1 .f32) (i : IVec S2097152x1x1 32) (j : S2097152x1.Idx) :
    Host.gather gather_S2097152x1_S2097152x1x1_S2097152x1_n_1_0_0_1_2_11 x i j = x j := by
  refine congrArg x (funext fun a => ?_)
  match a with
  | ⟨0, _⟩ =>
    refine Fin.ext ?_
    show GatherDims.start _ j i 0 + GatherDims.batchCoord _ j 0 + GatherDims.offCoord _ j 0 = _
    rw [GatherDims.start_batching _ _ _ _ (by simp [gather_S2097152x1_S2097152x1x1_S2097152x1_n_1_0_0_1_2_11]),
      GatherDims.offCoord_eq_zero _ _ _ (by rw [GatherDims.mem_sKept]; simp [gather_S2097152x1_S2097152x1x1_S2097152x1_n_1_0_0_1_2_11]),
      Nat.zero_add, Nat.add_zero]
    rfl
  | ⟨1, _⟩ => exact Subsingleton.elim (α := Fin 1) _ _

/-- An anchor's row, and reading a column as a vector. -/
abbrev row (e : S2097152.Idx) : S2097152x1.Idx := ix2 (e 0) 0

theorem column_eq {α : Type} (x : S2097152x1.Idx → α) (h : S2097152x1.ShapeCasts S2097152) (e : S2097152.Idx) :
    shapeCast S2097152 x h e = x (row e) :=
  congrArg x (Shape.reshapeEquiv_eq_of_rowMajor h (by
    rw [Shape.rowMajor_val_two, Shape.rowMajor_val_one]; exact (Nat.add_zero _).trans (Nat.mul_one _)))

theorem picked_eq (x : FVec Ideal S2097152x1 .f32) (t : IVec S32x65536 32) (e : S2097152.Idx) :
    picked x (start (clipped t)) e = x (row e) := by
  unfold picked
  rw [column_eq]
  show Scalar.select (inRange (start (clipped t)) (row e)) _ _ = _
  rw [inRange_eq]
  exact gather_eq _ _ _

theorem reduces_row : S2097152x1.Reduces [1] S2097152 := by decide

theorem lift_row (e : S2097152.Idx) (k : Fin 1) : reduces_row.lift e k = row e := by
  funext a
  match a with
  | ⟨0, _⟩ => exact Fin.ext rfl
  | ⟨1, _⟩ => exact Subsingleton.elim (α := Fin 1) _ _

/-- A finite extended real is a real number. -/
theorem real_of_abs (x : EReal) (h : max x (-x) < ⊤) : ∃ r : ℝ, x = r := by
  induction x with
  | bot => simp at h
  | top => simp at h
  | coe r => exact ⟨r, rfl⟩

/-- A vector written as a column, read in an anchor's row. -/
theorem bcast_row {α : Type} (y : S2097152.Idx → α) (e : S2097152.Idx) :
    broadcastInDim S2097152x1 ![0] bcast_S2097152_S2097152x1_0 y (row e) = y e :=
  congrArg y (by
    funext a
    match a with
    | ⟨0, _⟩ => exact (dif_neg (show ¬ (2097152 : ℕ) = 1 by decide)).trans rfl)

/-- The maximum of one value, from the bottom element. -/
theorem fold_one (g : Fin 1 → EReal) : (Finset.univ : Finset (Fin 1)).fold max ⊥ g = g 0 := by
  rw [Finset.univ_unique, Finset.fold_singleton]; exact max_bot_right _

/-- A finite entry is kept where the infinite ones are replaced. -/
theorem select_finite (y z : FVec Ideal S2097152x1 .f32) (j : S2097152x1.Idx) (h : max (y j) (-(y j)) < ⊤) :
    select (cmpf .olt (Host.absf y) (broadcastInDim S2097152x1 ![] bcast_S_S2097152x1 (constant S_ .f32 0x7F800000#32))) y z j = y j := by
  have hi : Ideal.ofBits .f32 0x7F800000#32 = ⊤ := by simp [Ideal.ofBits, Ideal.ieee]
  have hc : Ideal.cmp .olt (max (y j) (-(y j))) ⊤ = 1#1 := by
    show BitVec.ofBool (decide _) = _
    rw [decide_eq_true h]; rfl
  show Scalar.select (Ideal.cmp .olt (max (y j) (-(y j))) (Ideal.ofBits .f32 0x7F800000#32)) (y j) (z j) = _
  rw [hi, hc]; rfl

/-- A logarithm plus a vector, read at an anchor. -/
theorem log_add (y z : FVec Ideal S2097152 .f32) (e : S2097152.Idx) : addf (Host.log y) z e = Ideal.log (y e) + z e := rfl

section
variable (x : FVec Ideal S2097152x1 .f32) (e : S2097152.Idx)

theorem rowMax_eq : rowMax x (row e) = x (row e) := by
  unfold rowMax
  rw [bcast_row]
  refine (Host.reduce_eq_fold_single (max : EReal → EReal → EReal) x _ _ reduces_row _ e).trans ?_
  have hb : (constant S_ .f32 0xFF800000#32 : FVec Ideal S_ .f32) (Shape.Idx.first h_S_) = (⊥ : EReal) := by
    show Ideal.ofBits .f32 0xFF800000#32 = ⊥
    simp [Ideal.ofBits, Ideal.ieee]
  rw [hb]
  exact (fold_one _).trans (congrArg x (lift_row e 0))

theorem shift_eq (h : max (x (row e)) (-(x (row e))) < ⊤) : shift x (row e) = x (row e) := by
  unfold shift
  rw [select_finite _ _ _ (by rw [rowMax_eq]; exact h), rowMax_eq]

theorem lse_eq (h : max (x (row e)) (-(x (row e))) < ⊤) : lse x e = x (row e) := by
  obtain ⟨r, hr⟩ := real_of_abs _ h
  have hs : Host.reduceAdd (Host.exp (subf x (shift x))) (constant S_ .f32 0x00000000#32) reducesTo_S2097152x1_S2097152_d1 h_S_ e
      = (1 : EReal) := by
    show Ideal.hostReduceAdd _ (Host.exp (subf x (shift x))) (Ideal.ofBits .f32 0x00000000#32) e = _
    rw [Ideal.hostReduceAdd_single _ reduces_row, Ideal.ofBits_zero_f32, zero_add]
    show ∑ k : Fin 1, _ = _
    rw [Fin.sum_univ_one, lift_row]
    show Ideal.exp (x (row e) - shift x (row e)) = _
    rw [shift_eq x e h, hr, ← EReal.coe_sub, sub_self, Ideal.exp_coe, Real.exp_zero]; rfl
  unfold lse
  rw [log_add, hs, column_eq, shift_eq x e h, ← EReal.coe_one, Ideal.log_coe, if_neg (by norm_num), Real.log_one, EReal.coe_zero, zero_add]

end

/-- A reshaped difference that vanishes everywhere is zero. -/
theorem cast_sub_zero (y z : FVec Ideal S2097152 .f32) (h : ∀ e, (y e - z e : EReal) = 0) :
    shapeCast S32x65536 (subf y z) shapeCasts_S2097152_S32x65536 = fun _ => (0 : EReal) := funext fun _ => h _

/-- Every logit is finite. -/
def Finite (x : FVec Ideal S32x65536x1 .f32) : Prop := ∀ i, max (x i) (-(x i)) < ⊤

/-- Where the logits are finite, every anchor's cross entropy is zero. -/
theorem entropy_eq (x : FVec Ideal S32x65536x1 .f32) (t : IVec S32x65536 32) (h : Finite x) :
    entropy x t = fun _ => (0 : EReal) := by
  have hl : ∀ j, max (logits x j) (-(logits x j)) < ⊤ := fun j => h (Shape.reshapeEquiv shapeCasts_S32x65536x1_S2097152x1 j)
  refine cast_sub_zero _ _ fun e => ?_
  obtain ⟨r, hr⟩ := real_of_abs _ (hl (row e))
  rw [picked_eq, lse_eq _ _ (hl _), hr, ← EReal.coe_sub, sub_self, EReal.coe_zero]

end Cert.Proof.CrossEntropy

end
-- ==== Proof.Reference.lean ====
/-
  The reference's result over the extended reals. The class loss is zero, the localization loss is the sum of all
  elements' terms, and the divisor is the number of positive labels: the same sums the kernel takes, over the reshaped
  arguments.
-/
module

public import proofs.«01_k».proof.Proof.Gen.ReferenceIdeal.Run
public import proofs.«01_k».proof.Proof.CrossEntropy
public import Idealize.ShloMosaic.Lib.StableHlo.Predicate

@[expose] public section

noncomputable section

namespace Cert.Proof.Reference

open Cert.ReferenceIdeal Cert.ReferenceIdeal.Gen Cert.Fold Cert.Total Cert.Proof.CrossEntropy
open Idealize.ShloMosaic hiding ix1 ix2
open Idealize.ShloMosaic.ValueIdx (ix1 ix2 idxEquiv1)

/-! ## The reference's arrays -/

/-- Smooth L1 of every element's difference. -/
def smoothAll (a b : FVec Ideal S32x65536x8 .f32) : FVec Ideal S32x65536x8 .f32 :=
  select (cmpf .olt (Host.absf (subf a b)) (broadcastInDim S32x65536x8 ![] bcast_S_S32x65536x8 (constant S_ .f32 0x3F800000#32)))
    (mulf (mulf (broadcastInDim S32x65536x8 ![] bcast_S_S32x65536x8 (constant S_ .f32 0x3F000000#32)) (subf a b)) (subf a b))
    (subf (Host.absf (subf a b)) (broadcastInDim S32x65536x8 ![] bcast_S_S32x65536x8 (constant S_ .f32 0x3F000000#32)))

/-- The positive labels' mask as zeros and ones, once an element. -/
def weight (t : IVec S32x65536 32) : FVec Ideal S32x65536x8 .f32 :=
  broadcastInDim S32x65536x8 ![0, 1, 2] bcast_S32x65536x1_S32x65536x8_0_1_2
    (uitofp .f32 (broadcastInDim S32x65536x1 ![0, 1] bcast_S32x65536_S32x65536x1_0_1 (positive t)))

/-- The localization loss before the division. -/
def locSum (a b : FVec Ideal S32x65536x8 .f32) (t : IVec S32x65536 32) : FVec Ideal S_ .f32 :=
  Host.reduceAdd (mulf (smoothAll a b) (weight t)) (constant S_ .f32 0x00000000#32) reducesTo_S32x65536x8_S_d0_1_2 h_S_

/-- The number of positive labels of each batch entry. -/
def counts (t : IVec S32x65536 32) : IVec S32 32 :=
  Host.reduce IntOp.addi (extui 32 (positive t) natLt_1_32) (constantI S_ 32 0#32) reducesTo_S32x65536_S32_d1 h_S_

/-- The number of positive labels. -/
def total (t : IVec S32x65536 32) : FVec Ideal S_ .f32 :=
  Host.reduceAdd (sitofp .f32 (broadcastInDim S32x1 ![0] bcast_S32_S32x1_0 (counts t))) (constant S_ .f32 0x00000000#32)
    reducesTo_S32x1_S_d0_1 h_S_

/-! ## Their values -/

/-- Clipping a label to zero and one keeps whether it is positive. -/
theorem clip_pos (t : BitVec 32) : Pos (IntOp.minsi 1#32 (IntOp.maxsi 0#32 t)) ↔ Pos t := by
  have h0 : (0#32).toInt = 0 := rfl
  have h1 : (1#32).toInt = 1 := rfl
  unfold IntOp.minsi IntOp.maxsi Pos
  simp only [BitVec.slt_iff_toInt_lt, h0]
  split <;> split <;> simp_all <;> omega

theorem positive_eq (t : IVec S32x65536 32) (q : S32x65536.Idx) : positive t q = if Pos (t q) then 1#1 else 0#1 := by
  show IntOp.cmpi .sgt (IntOp.minsi 1#32 (IntOp.maxsi 0#32 (t q))) 0#32 = _
  rw [sgt_eq]
  exact if_congr (clip_pos _) rfl rfl

/-- The anchor of an element. -/
abbrev anchor (i : S32x65536x8.Idx) : S32x65536.Idx := ix2 (i 0) (i 1)

theorem weight_eq (t : IVec S32x65536 32) (i : S32x65536x8.Idx) : weight t i = if Pos (t (anchor i)) then (1 : EReal) else 0 := by
  have h : weight t i = (((positive t (anchor i)).toNat : ℝ) : EReal) := by
    show ((((positive t _).toNat : ℝ)) : EReal) = _
    refine congrArg (fun q => (((positive t q).toNat : ℝ) : EReal)) (funext fun a => ?_)
    match a with
    | ⟨0, _⟩ => rfl
    | ⟨1, _⟩ => rfl
  rw [h, positive_eq]
  split <;> simp

theorem smoothAll_eq (a b : FVec Ideal S32x65536x8 .f32) (i : S32x65536x8.Idx) : smoothAll a b i = smooth (F := Ideal) (a i - b i : EReal) := rfl

/-- A summand of the localization loss is the element's term. -/
theorem summand_eq (a b : FVec Ideal S32x65536x8 .f32) (t : IVec S32x65536 32) (i : S32x65536x8.Idx) :
    mulf (smoothAll a b) (weight t) i = term (F := Ideal) (a i) (b i) (t (anchor i)) := by
  show (smoothAll a b i * weight t i : EReal) = _
  rw [weight_eq, smoothAll_eq, term_eq]
  split
  · exact mul_one (_ : EReal)
  · exact mul_zero (_ : EReal)

section
variable (a b : FVec Ideal S32x65536x8 .f32) (t : IVec S32x65536 32)
  (hx : S32x65536x8.ShapeCasts ⟨1, ![16777216]⟩) (hc : S32x65536.ShapeCasts ⟨1, ![2097152]⟩)

/-- A reshaped label, by the element that asks for it. -/
theorem label_at (e : ℕ) (he : e < 16777216) :
    at1 2097152 (by decide) (shapeCast ⟨1, ![2097152]⟩ t hc) (e / 8) = t (anchor (Shape.reshapeEquiv hx (ix1 ⟨e, he⟩))) := by
  rw [at1_lt (by decide) _ (show e / 8 < 2097152 by omega)]
  refine congrArg t (Shape.reshapeEquiv_eq_of_rowMajor hc ?_)
  have h := Shape.rowMajor_reshapeEquiv hx (ix1 ⟨e, he⟩)
  rw [Shape.rowMajor_val_three, Shape.rowMajor_val_one] at h
  rw [Shape.rowMajor_val_two, Shape.rowMajor_val_one]
  generalize Shape.reshapeEquiv hx (ix1 ⟨e, he⟩) = i at h ⊢
  have h' : ((i 0).val * 65536 + (i 1).val) * 8 + (i 2).val = e := h
  have h2 : (i 2).val < 8 := (i 2).isLt
  show (i 0).val * 65536 + (i 1).val = e / 8
  omega

/-- The localization loss is the sum of all elements' terms. -/
theorem locSum_eq (j : S_.Idx) : locSum a b t j
    = sumAll (at1 16777216 (by decide) (shapeCast ⟨1, ![16777216]⟩ a hx)) (at1 16777216 (by decide) (shapeCast ⟨1, ![16777216]⟩ b hx))
        (at1 2097152 (by decide) (shapeCast ⟨1, ![2097152]⟩ t hc)) := by
  show Ideal.hostReduceAdd _ (mulf (smoothAll a b) (weight t)) (Ideal.ofBits .f32 0x00000000#32) j = _
  rw [Ideal.hostReduceAdd_total _ (fun b => b.elim0), Ideal.ofBits_zero_f32, zero_add,
    ← Equiv.sum_comp (Shape.reshapeEquiv hx), ← Equiv.sum_comp (idxEquiv1 (n := 16777216)).symm, sumAll, Finset.sum_range]
  refine Finset.sum_congr rfl fun e _ => ?_
  rw [summand_eq, termAt, label_at t hx hc e.val e.isLt, at1_lt _ _ e.isLt, at1_lt _ _ e.isLt]
  rfl

/-- A reshaped label, by its row and column. -/
theorem label_row (p : Fin 32) (q : Fin 65536) :
    at1 2097152 (by decide) (shapeCast ⟨1, ![2097152]⟩ t hc) (p.val * 65536 + q.val) = t (ix2 p q) := by
  rw [at1_lt (by decide) _ (show p.val * 65536 + q.val < 2097152 by omega)]
  refine congrArg t (Shape.reshapeEquiv_eq_of_rowMajor hc ?_)
  rw [Shape.rowMajor_val_two, Shape.rowMajor_val_one]
  rfl

/-- A batch entry's count, as a number. -/
theorem counts_eq (p : Fin 32) : (((counts t (ix1 p)).toInt : ℝ) : EReal) = ∑ q : Fin 65536, unit (F := Ideal) (t (ix2 p q)) := by
  have h : (counts t (ix1 p)).toNat = (Finset.univ.filter (fun q : Fin 65536 => positive t (ix2 p q) = 1#1)).card :=
    (StableHlo.Predicate.toNat_reduce_count_cols (by decide) (positive t) natLt_1_32 reducesTo_S32x65536_S32_d1 h_S_ (ix1 p)).trans
      (congrArg Finset.card (Finset.filter_congr fun q _ => iff_of_eq (congrArg (fun z => positive t z = 1#1) (by
        funext b; match b with | ⟨0, _⟩ => rfl | ⟨1, _⟩ => rfl))))
  have hle : (counts t (ix1 p)).toNat ≤ 65536 := by
    rw [h]; exact (Finset.card_le_univ _).trans (by simp)
  have hi : (counts t (ix1 p)).toInt = ((counts t (ix1 p)).toNat : ℤ) := BitVec.toInt_eq_toNat_of_lt (by omega)
  have hn : ∀ n : ℕ, (((n : ℤ) : ℝ) : EReal) = (n : EReal) := fun n => by simp
  rw [hi, h]
  have hu : ∀ q : Fin 65536, unit (F := Ideal) (t (ix2 p q)) = if positive t (ix2 p q) = 1#1 then (1 : EReal) else 0 := fun q => by
    rw [unit_eq, positive_eq]
    by_cases hp : Pos (t (ix2 p q)) <;> simp [hp]
  rw [Finset.sum_congr rfl fun q _ => hu q, Finset.sum_boole]
  exact hn _

/-- The divisor is the number of positive labels. -/
theorem total_eq (j : S_.Idx) : total t j = cntAll (at1 2097152 (by decide) (shapeCast ⟨1, ![2097152]⟩ t hc)) := by
  show Ideal.hostReduceAdd _ (sitofp (F := Ideal) .f32 (broadcastInDim S32x1 ![0] bcast_S32_S32x1_0 (counts t))) (Ideal.ofBits .f32 0x00000000#32) j = _
  rw [Ideal.hostReduceAdd_total _ (fun b => b.elim0), Ideal.ofBits_zero_f32, zero_add, ValueIdx.sum_idx2, cntAll,
    ← sum_blocks (fun e => unit (F := Ideal) (at1 2097152 (by decide) (shapeCast ⟨1, ![2097152]⟩ t hc) e)) 32 65536, Finset.sum_range]
  refine Finset.sum_congr rfl fun p _ => ?_
  rw [Fin.sum_univ_one, Finset.sum_range, Finset.sum_congr rfl fun q _ => congrArg (unit (F := Ideal)) (label_row t hc p q), ← counts_eq]
  show (((counts t _).toInt : ℝ) : EReal) = _
  refine congrArg (fun q => (((counts t q).toInt : ℝ) : EReal)) (funext fun a => ?_)
  match a with
  | ⟨0, _⟩ => rfl

end

/-! ## The result -/

/-- The reference's result is a fifth of the localization loss over the count, plus the selected anchors' cross entropy
    over the count; which anchors are selected is left open. -/
theorem result_form (m : (ℓ : Loc nD τ sig) → Buf (Elt Ideal) ℓ) (c : Dev nD) :
    ∃ w : FVec Ideal S32x65536 .f32, Cert.ReferenceIdeal.Value.res_out0 m c
      = addf (mulf (constant S_ .f32 0x3E4CCCCD#32)
          (Host.divf (locSum (m ((c.tc : Thread nD τ).loc main_arg0)) (m ((c.tc : Thread nD τ).loc main_arg1)) (m ((c.tc : Thread nD τ).loc main_arg3)))
            (total (m ((c.tc : Thread nD τ).loc main_arg3)))))
        (Host.divf (Host.reduceAdd (mulf (entropy (m ((c.tc : Thread nD τ).loc main_arg2)) (m ((c.tc : Thread nD τ).loc main_arg3))) w)
            (constant S_ .f32 0x00000000#32) reducesTo_S32x65536_S_d0_1 h_S_)
          (total (m ((c.tc : Thread nD τ).loc main_arg3)))) :=
  ⟨_, rfl⟩

/-- A host reduction of products with zero is zero. -/
theorem reduce_zero (w : FVec Ideal S32x65536 .f32) (j : S_.Idx) :
    Host.reduceAdd (mulf (fun _ => (0 : EReal)) w : FVec Ideal S32x65536 .f32) (constant S_ .f32 0x00000000#32) reducesTo_S32x65536_S_d0_1 h_S_ j = (0 : EReal) := by
  show Ideal.hostReduceAdd _ (fun i => (0 : EReal) * w i) (Ideal.ofBits .f32 0x00000000#32) j = _
  rw [Ideal.hostReduceAdd_total _ (fun b => b.elim0), Ideal.ofBits_zero_f32, zero_add]
  exact Finset.sum_eq_zero fun i _ => zero_mul (_ : EReal)

/-- A scaled quotient plus a quotient, read at an index. -/
theorem combine (k : BitVec 32) (A B C : FVec Ideal S_ .f32) (j : S_.Idx) :
    addf (mulf (constant S_ .f32 k) (Host.divf A B)) (Host.divf C B) j
      = (Ideal.ofBits .f32 k * Ideal.div (A j) (B j) + Ideal.div (C j) (B j) : EReal) := rfl

/-- With finite logits the reference's result is a fifth of the sum of all terms over the number of positive labels. -/
theorem result (m : (ℓ : Loc nD τ sig) → Buf (Elt Ideal) ℓ) (c : Dev nD)
    (hx : S32x65536x8.ShapeCasts ⟨1, ![16777216]⟩) (hc : S32x65536.ShapeCasts ⟨1, ![2097152]⟩)
    (h : Finite (m ((c.tc : Thread nD τ).loc main_arg2))) :
    Cert.ReferenceIdeal.Value.res_out0 m c = fun _ => Ideal.ofBits .f32 0x3E4CCCCD#32
      * Ideal.div (sumAll (at1 16777216 (by decide) (shapeCast ⟨1, ![16777216]⟩ (m ((c.tc : Thread nD τ).loc main_arg0)) hx))
          (at1 16777216 (by decide) (shapeCast ⟨1, ![16777216]⟩ (m ((c.tc : Thread nD τ).loc main_arg1)) hx))
          (at1 2097152 (by decide) (shapeCast ⟨1, ![2097152]⟩ (m ((c.tc : Thread nD τ).loc main_arg3)) hc)))
        (cntAll (at1 2097152 (by decide) (shapeCast ⟨1, ![2097152]⟩ (m ((c.tc : Thread nD τ).loc main_arg3)) hc))) := by
  obtain ⟨w, hw⟩ := result_form m c
  rw [hw, entropy_eq _ _ h]
  funext j
  rw [combine, reduce_zero, locSum_eq _ _ _ hx hc, total_eq _ hc]
  exact add_zero_div _ _ _ fifth_pos (sumAll_eq_zero _ _ _)

end Cert.Proof.Reference

end
-- ==== Proof.lean ====
/-
  The claims of `Cert.Claim`, put together: the frames of the kernel, of its idealization and of the reference, that the
  idealization is the kernel's own text, and that the idealized kernel and the reference end with equal results.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_finite_logits
public import proofs.«01_k».proof.Proof.Gen.ReferenceIdeal.Run
public import proofs.«01_k».proof.Proof.Main
public import proofs.«01_k».proof.Proof.MainIdeal
public import proofs.«01_k».proof.Proof.Value
public import proofs.«01_k».proof.Proof.Reference

@[expose] public section

noncomputable section

namespace Cert.Proof

open Idealize.ShloMosaic Idealize.SL.Sem

/-- The kernel runs, its arguments end unchanged, and every semaphore counter ends at zero. -/
theorem frame_kernel : Cert.quiescent_Kernel := fun m ρ _ =>
  (θ_run Cert.Kernel.defs _ _).mono (fun _ h => ⟨fun c =>
      ⟨(h.1 c _).trans (Main.V3_arg m c _ (by decide)), (h.1 c _).trans (Main.V3_arg m c _ (by decide)),
        (h.1 c _).trans (Main.V3_arg m c _ (by decide)), (h.1 c _).trans (Main.V3_arg m c _ (by decide))⟩, h.2⟩)
    (Main.run_main (F := Bits) m ρ)

/-- The same of the idealized kernel, at the extended reals. -/
theorem frame_ideal (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (Cert.KernelIdeal.threads (F := Ideal)) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0) :=
  (θ_run Cert.KernelIdeal.defs _ _).mono (fun _ h => ⟨fun c =>
      ⟨(h.1 c _).trans (MainIdeal.V3_arg m c _ (by decide)), (h.1 c _).trans (MainIdeal.V3_arg m c _ (by decide)),
        (h.1 c _).trans (MainIdeal.V3_arg m c _ (by decide)), (h.1 c _).trans (MainIdeal.V3_arg m c _ (by decide))⟩, h.2⟩)
    (MainIdeal.run_main (F := Ideal) m ρ)

/-- The same of the reference. -/
theorem frame_reference (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0) :=
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The precondition says that every logit is finite. -/
theorem finite_of_pre (a b : FVec Ideal Cert.Pre_finite_logits.S32x65536x8 .f32) (x : FVec Ideal Cert.Pre_finite_logits.S32x65536x1 .f32)
    (t : IVec Cert.Pre_finite_logits.S32x65536 32)
    (h : Cert.Pre_finite_logits.fn (F := Ideal) a b x t = fun _ => 1#1) : CrossEntropy.Finite x := by
  intro i
  have h1 := Host.reduce_andi_all _ _ _ _ _ (congrFun h (fun b => b.elim0)) i
  have h2 : BitVec.ofBool (decide (max (x i : EReal) (-(x i)) < Ideal.ofBits .f32 0x7F800000#32)) = 1#1 := h1
  have hi : Ideal.ofBits .f32 0x7F800000#32 = ⊤ := by simp [Ideal.ofBits, Ideal.ieee]
  rw [hi] at h2
  by_contra hn
  rw [decide_eq_false hn] at h2
  exact absurd h2 (by decide)

/-- From equal arguments with finite logits, the idealized kernel and the reference end with equal results. -/
theorem algebraic : Cert.algebraic_KernelIdeal_ReferenceIdeal_pre_finite_logits := by
  intro m g m' g' hpre hargs
  refine ⟨fun c => MainIdeal.V3 m c (MainIdeal.tcb Cert.KernelIdeal.main_v9),
    (θ_run Cert.KernelIdeal.defs _ _).mono (fun _ h c =>
      ⟨h.1 c _, (h.1 c _).trans (MainIdeal.V3_arg m c _ (by decide)), (h.1 c _).trans (MainIdeal.V3_arg m c _ (by decide)),
        (h.1 c _).trans (MainIdeal.V3_arg m c _ (by decide)), (h.1 c _).trans (MainIdeal.V3_arg m c _ (by decide))⟩)
      (MainIdeal.run_main (F := Ideal) m g),
    (θ_run Cert.ReferenceIdeal.defs _ _).mono (fun _ h c => ⟨(h c).1.trans ?_, (h c).2⟩)
      (Cert.ReferenceIdeal.Value.run (F := Ideal) m' g')⟩
  obtain ⟨h0, h1, h2, h3⟩ := hargs c
  have hf : CrossEntropy.Finite (m' ((c.tc : Thread Cert.ReferenceIdeal.nD Cert.ReferenceIdeal.τ).loc Cert.ReferenceIdeal.main_arg2)) := by
    rw [h2]; exact finite_of_pre _ _ _ _ (hpre c)
  refine (Reference.result m' c Cert.KernelIdeal.Gen.shapeCasts_S32x65536x8_S16777216 Cert.KernelIdeal.Gen.shapeCasts_S32x65536_S2097152 hf).trans ?_
  refine Eq.trans ?_ (Value.result m c).symm
  rw [MainIdeal.V1_v0, MainIdeal.V1_v1, MainIdeal.V1_v2, h0, h1, h3]
  rfl

theorem claim : Cert.Claim := ⟨Cert.Kernel.Gen.facts, Cert.KernelIdeal.Gen.facts, Cert.ReferenceIdeal.Gen.facts, Cert.Pre_finite_logits.Gen.facts,
  frame_kernel, fun m ρ _ => frame_ideal m ρ, fun m ρ _ => frame_ideal m ρ, fun m ρ _ => frame_reference m ρ, fun m ρ _ => frame_reference m ρ,
  trivial, algebraic⟩

end Cert.Proof

end
